-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8, 128]⟩ ⟨2, ![128, 128]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S8x128 : Shape := ⟨2, ![8, 128]⟩
abbrev S4x128x128 : Shape := ⟨3, ![4, 128, 128]⟩
abbrev S16x8x128 : Shape := ⟨3, ![16, 8, 128]⟩
abbrev S7 : Shape := ⟨1, ![7]⟩
abbrev S4 : Shape := ⟨1, ![4]⟩
abbrev S16 : Shape := ⟨1, ![16]⟩
abbrev S_ : Shape := ⟨0, ![]⟩
abbrev S1 : Shape := ⟨1, ![1]⟩
abbrev S1x128x128 : Shape := ⟨3, ![1, 128, 128]⟩
abbrev S1x8x128 : Shape := ⟨3, ![1, 8, 128]⟩

abbrev nBuf : Space → Nat
  | .hbm => 8
  | .vmem => 14
  | .smem => 0
  | _ => 0

abbrev bufTy : (tb : Table) → Fin (tcTables nBuf tb) → BufTy
  | .hbm, ⟨0, _⟩ => ⟨S128x128, .f32⟩
  | .hbm, ⟨1, _⟩ => ⟨S128x256, .f32⟩
  | .hbm, ⟨2, _⟩ => ⟨S256x128, .f32⟩
  | .hbm, ⟨3, _⟩ => ⟨S128x256, .f32⟩
  | .hbm, ⟨4, _⟩ => ⟨S256x128, .f32⟩
  | .hbm, ⟨5, _⟩ => ⟨S128x256, .f32⟩
  | .hbm, ⟨6, _⟩ => ⟨S256x128, .f32⟩
  | .hbm, ⟨7, _⟩ => ⟨S8x128, .f32⟩
  | .local _ .vmem, ⟨0, _⟩ => ⟨S8x128, .f32⟩
  | .local _ .vmem, ⟨1, _⟩ => ⟨S128x128, .f32⟩
  | .local _ .vmem, ⟨2, _⟩ => ⟨S4x128x128, .bf16⟩
  | .local _ .vmem, ⟨3, _⟩ => ⟨S4x128x128, .bf16⟩
  | .local _ .vmem, ⟨4, _⟩ => ⟨S4x128x128, .bf16⟩
  | .local _ .vmem, ⟨5, _⟩ => ⟨S4x128x128, .bf16⟩
  | .local _ .vmem, ⟨6, _⟩ => ⟨S16x8x128, .f32⟩
  | .local _ .vmem, ⟨7, _⟩ => ⟨S128x128, .f32⟩
  | .local _ .vmem, ⟨8, _⟩ => ⟨S128x256, .f32⟩
  | .local _ .vmem, ⟨9, _⟩ => ⟨S256x128, .f32⟩
  | .local _ .vmem, ⟨10, _⟩ => ⟨S128x256, .f32⟩
  | .local _ .vmem, ⟨11, _⟩ => ⟨S256x128, .f32⟩
  | .local _ .vmem, ⟨12, _⟩ => ⟨S128x256, .f32⟩
  | .local _ .vmem, ⟨13, _⟩ => ⟨S256x128, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_scratch12 : Ref sig .tc := ⟨.vmem, 13, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_1 : BitVec 32 := 4#32
  let v6 : BitVec 32 := Scalar.muli v3 c4_i32_1
  let c4_i32_0 : BitVec 32 := 4#32
  let v4 : BitVec 32 := Scalar.remsi v2 c4_i32_0
  let c1_i32_2 : BitVec 32 := 1#32
  let v7 : BitVec 32 := Scalar.addi v4 c1_i32_2
  let c4_i32_3 : BitVec 32 := 4#32
  let v8 : BitVec 32 := Scalar.remsi v7 c4_i32_3
  let v9 : BitVec 32 := Scalar.addi v6 v8
  let c1_i32_8 : BitVec 32 := 1#32
  let v14 : BitVec 32 := Scalar.muli v9 c1_i32_8
  let v15 : BitVec 32 := Scalar.addi c0_i32 v14
  v15.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_4 : BitVec 32 := 1#32
  let v10 : BitVec 32 := Scalar.addi v3 c1_i32_4
  let c4_i32_5 : BitVec 32 := 4#32
  let v11 : BitVec 32 := Scalar.remsi v10 c4_i32_5
  let c4_i32_6 : BitVec 32 := 4#32
  let v12 : BitVec 32 := Scalar.muli v11 c4_i32_6
  let c4_i32_0 : BitVec 32 := 4#32
  let v4 : BitVec 32 := Scalar.remsi v2 c4_i32_0
  let v13 : BitVec 32 := Scalar.addi v12 v4
  let c1_i32_10 : BitVec 32 := 1#32
  let v16 : BitVec 32 := Scalar.muli v13 c1_i32_10
  let v17 : BitVec 32 := Scalar.addi c0_i32_11 v16
  v17.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_12 : BitVec 32 := 4#32
  let v18 : BitVec 32 := Scalar.muli v3 c4_i32_12
  let c4_i32_0 : BitVec 32 := 4#32
  let v4 : BitVec 32 := Scalar.remsi v2 c4_i32_0
  let c2_i32 : BitVec 32 := 2#32
  let v19 : BitVec 32 := Scalar.addi v4 c2_i32
  let c4_i32_13 : BitVec 32 := 4#32
  let v20 : BitVec 32 := Scalar.remsi v19 c4_i32_13
  let v21 : BitVec 32 := Scalar.addi v18 v20
  let c1_i32_18 : BitVec 32 := 1#32
  let v26 : BitVec 32 := Scalar.muli v21 c1_i32_18
  let v27 : BitVec 32 := Scalar.addi c0_i32_19 v26
  v27.toNat
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_14 : BitVec 32 := 2#32
  let v22 : BitVec 32 := Scalar.addi v3 c2_i32_14
  let c4_i32_15 : BitVec 32 := 4#32
  let v23 : BitVec 32 := Scalar.remsi v22 c4_i32_15
  let c4_i32_16 : BitVec 32 := 4#32
  let v24 : BitVec 32 := Scalar.muli v23 c4_i32_16
  let c4_i32_0 : BitVec 32 := 4#32
  let v4 : BitVec 32 := Scalar.remsi v2 c4_i32_0
  let v25 : BitVec 32 := Scalar.addi v24 v4
  let c1_i32_21 : BitVec 32 := 1#32
  let v28 : BitVec 32 := Scalar.muli v25 c1_i32_21
  let v29 : BitVec 32 := Scalar.addi c0_i32_22 v28
  v29.toNat
def k0_dev5 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_23 : BitVec 32 := 4#32
  let v30 : BitVec 32 := Scalar.muli v3 c4_i32_23
  let c4_i32_0 : BitVec 32 := 4#32
  let v4 : BitVec 32 := Scalar.remsi v2 c4_i32_0
  let c3_i32 : BitVec 32 := 3#32
  let v31 : BitVec 32 := Scalar.addi v4 c3_i32
  let c4_i32_24 : BitVec 32 := 4#32
  let v32 : BitVec 32 := Scalar.remsi v31 c4_i32_24
  let v33 : BitVec 32 := Scalar.addi v30 v32
  let c1_i32_29 : BitVec 32 := 1#32
  let v38 : BitVec 32 := Scalar.muli v33 c1_i32_29
  let v39 : BitVec 32 := Scalar.addi c0_i32_30 v38
  v39.toNat
def k0_dev6 (d0 : Dev nD) : Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_25 : BitVec 32 := 3#32
  let v34 : BitVec 32 := Scalar.addi v3 c3_i32_25
  let c4_i32_26 : BitVec 32 := 4#32
  let v35 : BitVec 32 := Scalar.remsi v34 c4_i32_26
  let c4_i32_27 : BitVec 32 := 4#32
  let v36 : BitVec 32 := Scalar.muli v35 c4_i32_27
  let c4_i32_0 : BitVec 32 := 4#32
  let v4 : BitVec 32 := Scalar.remsi v2 c4_i32_0
  let v37 : BitVec 32 := Scalar.addi v36 v4
  let c1_i32_32 : BitVec 32 := 1#32
  let v40 : BitVec 32 := Scalar.muli v37 c1_i32_32
  let v41 : BitVec 32 := Scalar.addi c0_i32_33 v40
  v41.toNat
def k0_dev7 (d0 : Dev nD) : Nat :=
  let c0_i32_61 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_53 : BitVec 32 := 4#32
  let v77 : BitVec 32 := Scalar.muli v3 c4_i32_53
  let c4_i32_0 : BitVec 32 := 4#32
  let v4 : BitVec 32 := Scalar.remsi v2 c4_i32_0
  let c1_i32_54 : BitVec 32 := 1#32
  let v78 : BitVec 32 := Scalar.addi v4 c1_i32_54
  let c4_i32_55 : BitVec 32 := 4#32
  let v79 : BitVec 32 := Scalar.remsi v78 c4_i32_55
  let v80 : BitVec 32 := Scalar.addi v77 v79
  let c1_i32_60 : BitVec 32 := 1#32
  let v81 : BitVec 32 := Scalar.muli v80 c1_i32_60
  let v82 : BitVec 32 := Scalar.addi c0_i32_61 v81
  v82.toNat
def k0_dev8 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_66 : BitVec 32 := 4#32
  let v91 : BitVec 32 := Scalar.muli v3 c4_i32_66
  let c4_i32_0 : BitVec 32 := 4#32
  let v4 : BitVec 32 := Scalar.remsi v2 c4_i32_0
  let c2_i32_67 : BitVec 32 := 2#32
  let v92 : BitVec 32 := Scalar.addi v4 c2_i32_67
  let c4_i32_68 : BitVec 32 := 4#32
  let v93 : BitVec 32 := Scalar.remsi v92 c4_i32_68
  let v94 : BitVec 32 := Scalar.addi v91 v93
  let c1_i32_73 : BitVec 32 := 1#32
  let v95 : BitVec 32 := Scalar.muli v94 c1_i32_73
  let v96 : BitVec 32 := Scalar.addi c0_i32_74 v95
  v96.toNat
def k0_dev9 (d0 : Dev nD) : Nat :=
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_79 : BitVec 32 := 4#32
  let v105 : BitVec 32 := Scalar.muli v3 c4_i32_79
  let c4_i32_0 : BitVec 32 := 4#32
  let v4 : BitVec 32 := Scalar.remsi v2 c4_i32_0
  let c3_i32_80 : BitVec 32 := 3#32
  let v106 : BitVec 32 := Scalar.addi v4 c3_i32_80
  let c4_i32_81 : BitVec 32 := 4#32
  let v107 : BitVec 32 := Scalar.remsi v106 c4_i32_81
  let v108 : BitVec 32 := Scalar.addi v105 v107
  let c1_i32_86 : BitVec 32 := 1#32
  let v109 : BitVec 32 := Scalar.muli v108 c1_i32_86
  let v110 : BitVec 32 := Scalar.addi c0_i32_87 v109
  v110.toNat
def k0_dev10 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_156 : BitVec 32 := 1#32
  let v168 : BitVec 32 := Scalar.addi v3 c1_i32_156
  let c4_i32_157 : BitVec 32 := 4#32
  let v169 : BitVec 32 := Scalar.remsi v168 c4_i32_157
  let c4_i32_158 : BitVec 32 := 4#32
  let v170 : BitVec 32 := Scalar.muli v169 c4_i32_158
  let c4_i32_0 : BitVec 32 := 4#32
  let v4 : BitVec 32 := Scalar.remsi v2 c4_i32_0
  let v171 : BitVec 32 := Scalar.addi v170 v4
  let c1_i32_163 : BitVec 32 := 1#32
  let v172 : BitVec 32 := Scalar.muli v171 c1_i32_163
  let v173 : BitVec 32 := Scalar.addi c0_i32_164 v172
  v173.toNat
def k0_dev11 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_169 : BitVec 32 := 2#32
  let v182 : BitVec 32 := Scalar.addi v3 c2_i32_169
  let c4_i32_170 : BitVec 32 := 4#32
  let v183 : BitVec 32 := Scalar.remsi v182 c4_i32_170
  let c4_i32_171 : BitVec 32 := 4#32
  let v184 : BitVec 32 := Scalar.muli v183 c4_i32_171
  let c4_i32_0 : BitVec 32 := 4#32
  let v4 : BitVec 32 := Scalar.remsi v2 c4_i32_0
  let v185 : BitVec 32 := Scalar.addi v184 v4
  let c1_i32_176 : BitVec 32 := 1#32
  let v186 : BitVec 32 := Scalar.muli v185 c1_i32_176
  let v187 : BitVec 32 := Scalar.addi c0_i32_177 v186
  v187.toNat
def k0_dev12 (d0 : Dev nD) : Nat :=
  let c0_i32_190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_182 : BitVec 32 := 3#32
  let v196 : BitVec 32 := Scalar.addi v3 c3_i32_182
  let c4_i32_183 : BitVec 32 := 4#32
  let v197 : BitVec 32 := Scalar.remsi v196 c4_i32_183
  let c4_i32_184 : BitVec 32 := 4#32
  let v198 : BitVec 32 := Scalar.muli v197 c4_i32_184
  let c4_i32_0 : BitVec 32 := 4#32
  let v4 : BitVec 32 := Scalar.remsi v2 c4_i32_0
  let v199 : BitVec 32 := Scalar.addi v198 v4
  let c1_i32_189 : BitVec 32 := 1#32
  let v200 : BitVec 32 := Scalar.muli v199 c1_i32_189
  let v201 : BitVec 32 := Scalar.addi c0_i32_190 v200
  v201.toNat
def k0_dev13 (d0 : Dev nD) : Nat :=
  let c0_i32_276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_268 : BitVec 32 := 4#32
  let v273 : BitVec 32 := Scalar.muli v3 c4_i32_268
  let c4_i32_0 : BitVec 32 := 4#32
  let v4 : BitVec 32 := Scalar.remsi v2 c4_i32_0
  let c1_i32_269 : BitVec 32 := 1#32
  let v274 : BitVec 32 := Scalar.addi v4 c1_i32_269
  let c4_i32_270 : BitVec 32 := 4#32
  let v275 : BitVec 32 := Scalar.remsi v274 c4_i32_270
  let v276 : BitVec 32 := Scalar.addi v273 v275
  let c1_i32_275 : BitVec 32 := 1#32
  let v277 : BitVec 32 := Scalar.muli v276 c1_i32_275
  let v278 : BitVec 32 := Scalar.addi c0_i32_276 v277
  v278.toNat
def k0_dev14 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_281 : BitVec 32 := 4#32
  let v287 : BitVec 32 := Scalar.muli v3 c4_i32_281
  let c4_i32_0 : BitVec 32 := 4#32
  let v4 : BitVec 32 := Scalar.remsi v2 c4_i32_0
  let c2_i32_282 : BitVec 32 := 2#32
  let v288 : BitVec 32 := Scalar.addi v4 c2_i32_282
  let c4_i32_283 : BitVec 32 := 4#32
  let v289 : BitVec 32 := Scalar.remsi v288 c4_i32_283
  let v290 : BitVec 32 := Scalar.addi v287 v289
  let c1_i32_288 : BitVec 32 := 1#32
  let v291 : BitVec 32 := Scalar.muli v290 c1_i32_288
  let v292 : BitVec 32 := Scalar.addi c0_i32_289 v291
  v292.toNat
def k0_dev15 (d0 : Dev nD) : Nat :=
  let c0_i32_302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_294 : BitVec 32 := 4#32
  let v301 : BitVec 32 := Scalar.muli v3 c4_i32_294
  let c4_i32_0 : BitVec 32 := 4#32
  let v4 : BitVec 32 := Scalar.remsi v2 c4_i32_0
  let c3_i32_295 : BitVec 32 := 3#32
  let v302 : BitVec 32 := Scalar.addi v4 c3_i32_295
  let c4_i32_296 : BitVec 32 := 4#32
  let v303 : BitVec 32 := Scalar.remsi v302 c4_i32_296
  let v304 : BitVec 32 := Scalar.addi v301 v303
  let c1_i32_301 : BitVec 32 := 1#32
  let v305 : BitVec 32 := Scalar.muli v304 c1_i32_301
  let v306 : BitVec 32 := Scalar.addi c0_i32_302 v305
  v306.toNat
def k0_dev16 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_371 : BitVec 32 := 1#32
  let v364 : BitVec 32 := Scalar.addi v3 c1_i32_371
  let c4_i32_372 : BitVec 32 := 4#32
  let v365 : BitVec 32 := Scalar.remsi v364 c4_i32_372
  let c4_i32_373 : BitVec 32 := 4#32
  let v366 : BitVec 32 := Scalar.muli v365 c4_i32_373
  let c4_i32_0 : BitVec 32 := 4#32
  let v4 : BitVec 32 := Scalar.remsi v2 c4_i32_0
  let v367 : BitVec 32 := Scalar.addi v366 v4
  let c1_i32_378 : BitVec 32 := 1#32
  let v368 : BitVec 32 := Scalar.muli v367 c1_i32_378
  let v369 : BitVec 32 := Scalar.addi c0_i32_379 v368
  v369.toNat
def k0_dev17 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_384 : BitVec 32 := 2#32
  let v378 : BitVec 32 := Scalar.addi v3 c2_i32_384
  let c4_i32_385 : BitVec 32 := 4#32
  let v379 : BitVec 32 := Scalar.remsi v378 c4_i32_385
  let c4_i32_386 : BitVec 32 := 4#32
  let v380 : BitVec 32 := Scalar.muli v379 c4_i32_386
  let c4_i32_0 : BitVec 32 := 4#32
  let v4 : BitVec 32 := Scalar.remsi v2 c4_i32_0
  let v381 : BitVec 32 := Scalar.addi v380 v4
  let c1_i32_391 : BitVec 32 := 1#32
  let v382 : BitVec 32 := Scalar.muli v381 c1_i32_391
  let v383 : BitVec 32 := Scalar.addi c0_i32_392 v382
  v383.toNat
def k0_dev18 (d0 : Dev nD) : Nat :=
  let c0_i32_405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_397 : BitVec 32 := 3#32
  let v392 : BitVec 32 := Scalar.addi v3 c3_i32_397
  let c4_i32_398 : BitVec 32 := 4#32
  let v393 : BitVec 32 := Scalar.remsi v392 c4_i32_398
  let c4_i32_399 : BitVec 32 := 4#32
  let v394 : BitVec 32 := Scalar.muli v393 c4_i32_399
  let c4_i32_0 : BitVec 32 := 4#32
  let v4 : BitVec 32 := Scalar.remsi v2 c4_i32_0
  let v395 : BitVec 32 := Scalar.addi v394 v4
  let c1_i32_404 : BitVec 32 := 1#32
  let v396 : BitVec 32 := Scalar.muli v395 c1_i32_404
  let v397 : BitVec 32 := Scalar.addi c0_i32_405 v396
  v397.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v468 : BitVec 32 := Scalar.muli v2 c8_i32
  let v469 : Index := Scalar.indexCast v468
  let c0_482 : Index := 0#32
  ![v469.toNat, 0]
def k0_off2 (d0 : Dev nD) (c1_i32_486 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v474 : BitVec 32 := Scalar.addi v2 c1_i32_486
  let c16_i32_487 : BitVec 32 := 16#32
  let v475 : BitVec 32 := Scalar.remsi v474 c16_i32_487
  let c8_i32_488 : BitVec 32 := 8#32
  let v476 : BitVec 32 := Scalar.muli v475 c8_i32_488
  let c0_i32_496 : BitVec 32 := 0#32
  ![v476.toNat, 0]
def k0_dev19 (d0 : Dev nD) : Nat :=
  let c0_i32_493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_486 : BitVec 32 := 1#32
  let v474 : BitVec 32 := Scalar.addi v2 c1_i32_486
  let c16_i32_487 : BitVec 32 := 16#32
  let v475 : BitVec 32 := Scalar.remsi v474 c16_i32_487
  let c1_i32_492 : BitVec 32 := 1#32
  let v477 : BitVec 32 := Scalar.muli v475 c1_i32_492
  let v478 : BitVec 32 := Scalar.addi c0_i32_493 v477
  v478.toNat
def k0_dev20 (d0 : Dev nD) : Nat :=
  let c0_i32_504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_497 : BitVec 32 := 2#32
  let v486 : BitVec 32 := Scalar.addi v2 c2_i32_497
  let c16_i32_498 : BitVec 32 := 16#32
  let v487 : BitVec 32 := Scalar.remsi v486 c16_i32_498
  let c1_i32_503 : BitVec 32 := 1#32
  let v489 : BitVec 32 := Scalar.muli v487 c1_i32_503
  let v490 : BitVec 32 := Scalar.addi c0_i32_504 v489
  v490.toNat
def k0_dev21 (d0 : Dev nD) : Nat :=
  let c0_i32_515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_508 : BitVec 32 := 3#32
  let v498 : BitVec 32 := Scalar.addi v2 c3_i32_508
  let c16_i32_509 : BitVec 32 := 16#32
  let v499 : BitVec 32 := Scalar.remsi v498 c16_i32_509
  let c1_i32_514 : BitVec 32 := 1#32
  let v501 : BitVec 32 := Scalar.muli v499 c1_i32_514
  let v502 : BitVec 32 := Scalar.addi c0_i32_515 v501
  v502.toNat
def k0_dev22 (d0 : Dev nD) : Nat :=
  let c0_i32_526 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_519 : BitVec 32 := 4#32
  let v510 : BitVec 32 := Scalar.addi v2 c4_i32_519
  let c16_i32_520 : BitVec 32 := 16#32
  let v511 : BitVec 32 := Scalar.remsi v510 c16_i32_520
  let c1_i32_525 : BitVec 32 := 1#32
  let v513 : BitVec 32 := Scalar.muli v511 c1_i32_525
  let v514 : BitVec 32 := Scalar.addi c0_i32_526 v513
  v514.toNat
def k0_dev23 (d0 : Dev nD) : Nat :=
  let c0_i32_537 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_530 : BitVec 32 := 5#32
  let v522 : BitVec 32 := Scalar.addi v2 c5_i32_530
  let c16_i32_531 : BitVec 32 := 16#32
  let v523 : BitVec 32 := Scalar.remsi v522 c16_i32_531
  let c1_i32_536 : BitVec 32 := 1#32
  let v525 : BitVec 32 := Scalar.muli v523 c1_i32_536
  let v526 : BitVec 32 := Scalar.addi c0_i32_537 v525
  v526.toNat
def k0_dev24 (d0 : Dev nD) : Nat :=
  let c0_i32_548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_541 : BitVec 32 := 6#32
  let v534 : BitVec 32 := Scalar.addi v2 c6_i32_541
  let c16_i32_542 : BitVec 32 := 16#32
  let v535 : BitVec 32 := Scalar.remsi v534 c16_i32_542
  let c1_i32_547 : BitVec 32 := 1#32
  let v537 : BitVec 32 := Scalar.muli v535 c1_i32_547
  let v538 : BitVec 32 := Scalar.addi c0_i32_548 v537
  v538.toNat
def k0_dev25 (d0 : Dev nD) : Nat :=
  let c0_i32_558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v546 : BitVec 32 := Scalar.addi v2 c7_i32
  let c16_i32_552 : BitVec 32 := 16#32
  let v547 : BitVec 32 := Scalar.remsi v546 c16_i32_552
  let c1_i32_557 : BitVec 32 := 1#32
  let v549 : BitVec 32 := Scalar.muli v547 c1_i32_557
  let v550 : BitVec 32 := Scalar.addi c0_i32_558 v549
  v550.toNat
def k0_dev26 (d0 : Dev nD) : Nat :=
  let c0_i32_569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_562 : BitVec 32 := 8#32
  let v558 : BitVec 32 := Scalar.addi v2 c8_i32_562
  let c16_i32_563 : BitVec 32 := 16#32
  let v559 : BitVec 32 := Scalar.remsi v558 c16_i32_563
  let c1_i32_568 : BitVec 32 := 1#32
  let v561 : BitVec 32 := Scalar.muli v559 c1_i32_568
  let v562 : BitVec 32 := Scalar.addi c0_i32_569 v561
  v562.toNat
def k0_dev27 (d0 : Dev nD) : Nat :=
  let c0_i32_579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v570 : BitVec 32 := Scalar.addi v2 c9_i32
  let c16_i32_573 : BitVec 32 := 16#32
  let v571 : BitVec 32 := Scalar.remsi v570 c16_i32_573
  let c1_i32_578 : BitVec 32 := 1#32
  let v573 : BitVec 32 := Scalar.muli v571 c1_i32_578
  let v574 : BitVec 32 := Scalar.addi c0_i32_579 v573
  v574.toNat
def k0_dev28 (d0 : Dev nD) : Nat :=
  let c0_i32_589 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v582 : BitVec 32 := Scalar.addi v2 c10_i32
  let c16_i32_583 : BitVec 32 := 16#32
  let v583 : BitVec 32 := Scalar.remsi v582 c16_i32_583
  let c1_i32_588 : BitVec 32 := 1#32
  let v585 : BitVec 32 := Scalar.muli v583 c1_i32_588
  let v586 : BitVec 32 := Scalar.addi c0_i32_589 v585
  v586.toNat
def k0_dev29 (d0 : Dev nD) : Nat :=
  let c0_i32_599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v594 : BitVec 32 := Scalar.addi v2 c11_i32
  let c16_i32_593 : BitVec 32 := 16#32
  let v595 : BitVec 32 := Scalar.remsi v594 c16_i32_593
  let c1_i32_598 : BitVec 32 := 1#32
  let v597 : BitVec 32 := Scalar.muli v595 c1_i32_598
  let v598 : BitVec 32 := Scalar.addi c0_i32_599 v597
  v598.toNat
def k0_dev30 (d0 : Dev nD) : Nat :=
  let c0_i32_609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v606 : BitVec 32 := Scalar.addi v2 c12_i32
  let c16_i32_603 : BitVec 32 := 16#32
  let v607 : BitVec 32 := Scalar.remsi v606 c16_i32_603
  let c1_i32_608 : BitVec 32 := 1#32
  let v609 : BitVec 32 := Scalar.muli v607 c1_i32_608
  let v610 : BitVec 32 := Scalar.addi c0_i32_609 v609
  v610.toNat
def k0_dev31 (d0 : Dev nD) : Nat :=
  let c0_i32_619 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v618 : BitVec 32 := Scalar.addi v2 c13_i32
  let c16_i32_613 : BitVec 32 := 16#32
  let v619 : BitVec 32 := Scalar.remsi v618 c16_i32_613
  let c1_i32_618 : BitVec 32 := 1#32
  let v621 : BitVec 32 := Scalar.muli v619 c1_i32_618
  let v622 : BitVec 32 := Scalar.addi c0_i32_619 v621
  v622.toNat
def k0_dev32 (d0 : Dev nD) : Nat :=
  let c0_i32_629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v630 : BitVec 32 := Scalar.addi v2 c14_i32
  let c16_i32_623 : BitVec 32 := 16#32
  let v631 : BitVec 32 := Scalar.remsi v630 c16_i32_623
  let c1_i32_628 : BitVec 32 := 1#32
  let v633 : BitVec 32 := Scalar.muli v631 c1_i32_628
  let v634 : BitVec 32 := Scalar.addi c0_i32_629 v633
  v634.toNat
def k0_dev33 (d0 : Dev nD) : Nat :=
  let c0_i32_639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v642 : BitVec 32 := Scalar.addi v2 c15_i32
  let c16_i32_633 : BitVec 32 := 16#32
  let v643 : BitVec 32 := Scalar.remsi v642 c16_i32_633
  let c1_i32_638 : BitVec 32 := 1#32
  let v645 : BitVec 32 := Scalar.muli v643 c1_i32_638
  let v646 : BitVec 32 := Scalar.addi c0_i32_639 v645
  v646.toNat
abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S128x128 : Shape := ⟨2, ![128, 128]⟩
abbrev S128x4096 : Shape := ⟨2, ![128, 4096]⟩
abbrev S4096x128 : Shape := ⟨2, ![4096, 128]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S128x4096, .f32⟩
  | .hbm, ⟨2, _⟩ => ⟨S4096x128, .f32⟩
  | .hbm, ⟨3, _⟩ => ⟨S128x4096, .f32⟩
  | .hbm, ⟨4, _⟩ => ⟨S4096x128, .f32⟩
  | .hbm, ⟨5, _⟩ => ⟨S128x4096, .f32⟩
  | .hbm, ⟨6, _⟩ => ⟨S4096x128, .f32⟩
  | .hbm, ⟨7, _⟩ => ⟨S128x4096, .f32⟩
  | .hbm, ⟨8, _⟩ => ⟨S_, .f32⟩
  | .hbm, ⟨9, _⟩ => ⟨S128x4096, .f32⟩
  | .hbm, ⟨10, _⟩ => ⟨S128x4096, .f32⟩
  | .hbm, ⟨11, _⟩ => ⟨S128x128, .f32⟩
  | .hbm, ⟨12, _⟩ => ⟨S128x4096, .f32⟩
  | .hbm, ⟨13, _⟩ => ⟨S_, .f32⟩
  | .hbm, ⟨14, _⟩ => ⟨S128x4096, .f32⟩
  | .hbm, ⟨15, _⟩ => ⟨S128x4096, .f32⟩
  | .hbm, ⟨16, _⟩ => ⟨S128x128, .f32⟩
  | .hbm, ⟨17, _⟩ => ⟨S128x4096, .f32⟩
  | .hbm, ⟨18, _⟩ => ⟨S_, .f32⟩
  | .hbm, ⟨19, _⟩ => ⟨S128x4096, .f32⟩
  | .hbm, ⟨20, _⟩ => ⟨S128x4096, .f32⟩
  | .hbm, ⟨21, _⟩ => ⟨S128x128, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Mesh.lean ====
/-
# The mesh, the memrefs and the kernel body as chains of like operations

Sixteen devices in four planes of four: device `c` is `4 z + q`. A four-way exchange runs inside a plane (the `q`s)
or inside a column (the `z`s); the last exchange runs over all sixteen. This module names the partners (`peer`,
`rot`), the slot of each exchange buffer, the semaphore of each slot, and writes the kernel body with every run of
like operations as one chain over its index (`opChain`), which `body_eq_prog` proves to be the printed body.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Tactic

@[expose] public section

noncomputable section

namespace Cert.Talk

open Cert.KernelIdeal Cert.KernelIdeal.Gen
open Idealize.ShloMosaic Idealize.ShloMosaic.TcCoe Idealize.SL.Sem

variable {F : FTy → Type} [FloatOps F]

/-! ## Partners -/

/-- Partner `k` of device `c` along axis `ax`: `k` steps on in its plane (axis 0) or in its column (axis 1). -/
def peer (ax k : Fin 4) (c : Dev nD) : Dev nD :=
  if ax.val % 2 = 0 then ⟨4 * (c.val / 4) + (c.val + k.val) % 4, by have h : c.val < 16 := c.isLt; show _ < 16; omega⟩
  else ⟨4 * ((c.val / 4 + k.val) % 4) + c.val % 4, by show _ < 16; omega⟩

/-- The device `k` steps on in the ring of all sixteen. -/
def rot (k : Fin 16) (c : Dev nD) : Dev nD := c + k

/-- Stepping on by `k` undoes stepping back by `k`. -/
theorem peer_neg : ∀ (ax k : Fin 4) (c : Dev nD), peer ax k (peer ax (-k) c) = c := by decide +kernel

/-- Stepping back by `k` undoes stepping on by `k`. -/
theorem neg_peer : ∀ (ax k : Fin 4) (c : Dev nD), peer ax (-k) (peer ax k c) = c := by decide +kernel

/-- No step. -/
theorem peer_zero : ∀ (ax : Fin 4) (c : Dev nD), peer ax (-0) c = c := by decide +kernel

/-- No step on in the ring leaves the device. -/
theorem rot_zero : ∀ c : Dev nD, rot 0 c = c := by decide +kernel

/-- Nor does no step back. -/
theorem rot_neg_zero : ∀ c : Dev nD, rot (-0) c = c := by decide +kernel

/-- Stepping on undoes stepping back, in the ring. -/
theorem rot_neg : ∀ (k : Fin 16) (c : Dev nD), rot k (rot (-k) c) = c := by decide +kernel

/-- Stepping back undoes stepping on, in the ring. -/
theorem neg_rot : ∀ (k : Fin 16) (c : Dev nD), rot (-k) (rot k c) = c := by decide +kernel

/-! ## The device each operation of the body addresses -/

/-- The device of the barrier signal along axis `ax`, distance `k`. -/
def sigDev (d : Dev nD) : Fin 4 × Fin 4 → Dev nD
  | (0, 1) => ⟨k0_dev1 d, k0_dev1_lt d⟩ | (1, 1) => ⟨k0_dev2 d, k0_dev2_lt d⟩
  | (0, 2) => ⟨k0_dev3 d, k0_dev3_lt d⟩ | (1, 2) => ⟨k0_dev4 d, k0_dev4_lt d⟩
  | (0, 3) => ⟨k0_dev5 d, k0_dev5_lt d⟩ | (1, 3) => ⟨k0_dev6 d, k0_dev6_lt d⟩
  | (ax, k) => peer ax k d

/-- The device of copy `k` of exchange `st`. -/
def stDev (d : Dev nD) : Fin 4 → Fin 4 → Dev nD
  | 0, 1 => ⟨k0_dev7 d, k0_dev7_lt d⟩ | 0, 2 => ⟨k0_dev8 d, k0_dev8_lt d⟩ | 0, 3 => ⟨k0_dev9 d, k0_dev9_lt d⟩
  | 1, 1 => ⟨k0_dev10 d, k0_dev10_lt d⟩ | 1, 2 => ⟨k0_dev11 d, k0_dev11_lt d⟩ | 1, 3 => ⟨k0_dev12 d, k0_dev12_lt d⟩
  | 2, 1 => ⟨k0_dev13 d, k0_dev13_lt d⟩ | 2, 2 => ⟨k0_dev14 d, k0_dev14_lt d⟩ | 2, 3 => ⟨k0_dev15 d, k0_dev15_lt d⟩
  | 3, 1 => ⟨k0_dev16 d, k0_dev16_lt d⟩ | 3, 2 => ⟨k0_dev17 d, k0_dev17_lt d⟩ | 3, 3 => ⟨k0_dev18 d, k0_dev18_lt d⟩
  | st, k => peer st k d

/-- The device of copy `k` of the last exchange. -/
def r2Dev (d : Dev nD) : Fin 16 → Dev nD
  | 1 => ⟨k0_dev19 d, k0_dev19_lt d⟩ | 2 => ⟨k0_dev20 d, k0_dev20_lt d⟩ | 3 => ⟨k0_dev21 d, k0_dev21_lt d⟩
  | 4 => ⟨k0_dev22 d, k0_dev22_lt d⟩ | 5 => ⟨k0_dev23 d, k0_dev23_lt d⟩ | 6 => ⟨k0_dev24 d, k0_dev24_lt d⟩
  | 7 => ⟨k0_dev25 d, k0_dev25_lt d⟩ | 8 => ⟨k0_dev26 d, k0_dev26_lt d⟩ | 9 => ⟨k0_dev27 d, k0_dev27_lt d⟩
  | 10 => ⟨k0_dev28 d, k0_dev28_lt d⟩ | 11 => ⟨k0_dev29 d, k0_dev29_lt d⟩ | 12 => ⟨k0_dev30 d, k0_dev30_lt d⟩
  | 13 => ⟨k0_dev31 d, k0_dev31_lt d⟩ | 14 => ⟨k0_dev32 d, k0_dev32_lt d⟩ | 15 => ⟨k0_dev33 d, k0_dev33_lt d⟩
  | k => rot k d

set_option maxRecDepth 8192 in
/-- A barrier signal goes to the partner. -/
theorem sigDev_eq : ∀ (d : Dev nD) (i : Fin 4 × Fin 4), sigDev d i = peer i.1 i.2 d := by decide +kernel

set_option maxRecDepth 8192 in
/-- A copy of a four-way exchange goes to the partner. -/
theorem stDev_eq : ∀ (d : Dev nD) (st k : Fin 4), stDev d st k = peer st k d := by decide +kernel

set_option maxRecDepth 8192 in
/-- A copy of the last exchange goes `k` steps on. -/
theorem r2Dev_eq : ∀ (d : Dev nD) (k : Fin 16), r2Dev d k = rot k d := by decide +kernel

/-! ## Semaphores -/

/-- Each of four semaphores lies in its array; -/
theorem sem4_inb : ∀ k : Fin 4, ∀ a, (![k.val] : Fin 1 → Nat) a + S1.size a ≤ S4.size a := by decide
/-- each of seven; -/
theorem sem7_inb : ∀ k : Fin 7, ∀ a, (![k.val] : Fin 1 → Nat) a + S1.size a ≤ S7.size a := by decide
/-- each of sixteen. -/
theorem sem16_inb : ∀ k : Fin 16, ∀ a, (![k.val] : Fin 1 → Nat) a + S1.size a ≤ S16.size a := by decide

/-- Semaphore `k` of an array of four. -/
def sem4 (a : DmaSems sig S4) (k : Fin 4) : DmaSem sig :=
  ((a.slice (Rect.unit (s := S4) ![k.val] S1.size (sem4_inb k))).squeeze S_ squeezes_S1_S_).sem
/-- Semaphore `k` of an array of seven. -/
def sem7 (a : DmaSems sig S7) (k : Fin 7) : DmaSem sig :=
  ((a.slice (Rect.unit (s := S7) ![k.val] S1.size (sem7_inb k))).squeeze S_ squeezes_S1_S_).sem
/-- Semaphore `k` of an array of sixteen. -/
def sem16 (a : DmaSems sig S16) (k : Fin 16) : DmaSem sig :=
  ((a.slice (Rect.unit (s := S16) ![k.val] S1.size (sem16_inb k))).squeeze S_ squeezes_S1_S_).sem

/-- The runtime's barrier semaphore. -/
def barSem : Sem sig := (SemArray.scalar (sig.barrier 0 rfl) : Sems sig S_).sem

/-- The send semaphores of exchange `st`. -/
def sendA : Fin 4 → DmaSems sig S4
  | 0 => cc0_scratch14 | 1 => cc0_scratch16 | 2 => cc0_scratch18 | 3 => cc0_scratch20
/-- The receive semaphores of exchange `st`. -/
def recvA : Fin 4 → DmaSems sig S4
  | 0 => cc0_scratch15 | 1 => cc0_scratch17 | 2 => cc0_scratch19 | 3 => cc0_scratch21

/-! ## Memrefs -/

/-- The exchange buffer of exchange `st`, as a buffer. -/
abbrev commRef : Fin 4 → Ref sig .tc
  | 0 => cc0_scratch1 | 1 => cc0_scratch2 | 2 => cc0_scratch3 | 3 => cc0_scratch4

/-- The exchange buffer of exchange `st`. -/
def commM : Fin 4 → Memref sig .tc .vmem S4x128x128 .bf16
  | 0 => Memref.whole cc0_scratch1 | 1 => Memref.whole cc0_scratch2
  | 2 => Memref.whole cc0_scratch3 | 3 => Memref.whole cc0_scratch4

/-- An exchange buffer is a whole buffer. -/
theorem commM_whole : ∀ st, (commM st).IsWhole
  | 0 => Memref.isWhole_whole _ | 1 => Memref.isWhole_whole _
  | 2 => Memref.isWhole_whole _ | 3 => Memref.isWhole_whole _

/-- A slot lies in its exchange buffer. -/
theorem slot_inb : ∀ k : Fin 4, ∀ a, (![k.val, 0, 0] : Fin 3 → Nat) a + S1x128x128.size a ≤ S4x128x128.size a := by decide

/-- Slot `k` of an exchange buffer, as a rectangle. -/
abbrev slotR (k : Fin 4) : Rect S4x128x128 := Rect.unit (s := S4x128x128) ![k.val, 0, 0] S1x128x128.size (slot_inb k)

/-- A slot is made of whole words, -/
theorem slotR_words : ∀ k : Fin 4, (slotR k).WholeWords (EltTy.packing .bf16) := by decide
/-- and of packed rows. -/
theorem slotR_packed : ∀ k : Fin 4, (slotR k).PackedRows (EltTy.packing .bf16) := by decide

/-- Slot `k` of an exchange buffer. -/
def slotM (m : Memref sig .tc .vmem S4x128x128 .bf16) (k : Fin 4) : Memref sig .tc .vmem S128x128 .bf16 :=
  (m.slice (slotR k) (fun _ => rfl)).squeeze S128x128 squeezes_S1x128x128_S128x128

/-- So a copy can read and write it. -/
theorem slotM_word (m : Memref sig .tc .vmem S4x128x128 .bf16) (h : m.IsWhole) (k : Fin 4) : (slotM m k).view.WordExact :=
  (h.wordExact_slice rfl _ (slotR_words k)).reshape _ _

/-- The whole of an exchange buffer, as a rectangle. -/
abbrev allR : Rect S4x128x128 := Rect.unit (s := S4x128x128) ![0, 0, 0] S4x128x128.size inb_S4x128x128_S4x128x128_0_0_0

/-- The partial products of the last layer. -/
abbrev p2M : Memref sig .tc .vmem S128x128 .f32 := Memref.whole cc0_scratch0
/-- The landing buffer of the last exchange. -/
abbrev c2M : Memref sig .tc .vmem S16x8x128 .f32 := Memref.whole cc0_scratch5

/-- The eight rows that a device sends lie in the product. -/
theorem row_inb : ∀ (d : Dev nD) (k : Fin 16), ∀ a, (k0_off2 d (BitVec.ofNat 32 k.val)) a + S8x128.size a ≤ S128x128.size a := by
  decide +kernel

/-- The eight rows of the product that device `d` sends `k` steps on, as a rectangle. -/
abbrev rowR (d : Dev nD) (k : Fin 16) : Rect S128x128 :=
  Rect.unit (s := S128x128) (k0_off2 d (BitVec.ofNat 32 k.val)) S8x128.size (row_inb d k)

/-- Those eight rows. -/
def rowM (d : Dev nD) (k : Fin 16) : Memref sig .tc .vmem S8x128 .f32 := p2M.slice (rowR d k) (fun _ => rfl)

/-- A slot lies in the last exchange's landing buffer. -/
theorem slot2_inb : ∀ k : Fin 16, ∀ a, (![k.val, 0, 0] : Fin 3 → Nat) a + S1x8x128.size a ≤ S16x8x128.size a := by decide

/-- Slot `k` of the last exchange's landing buffer, as a rectangle. -/
abbrev slot2R (k : Fin 16) : Rect S16x8x128 := Rect.unit (s := S16x8x128) ![k.val, 0, 0] S1x8x128.size (slot2_inb k)

/-- Slot `k` of the last exchange's landing buffer. -/
def slot2M (k : Fin 16) : Memref sig .tc .vmem S8x128 .f32 :=
  (c2M.slice (slot2R k) (fun _ => rfl)).squeeze S8x128 squeezes_S1x8x128_S8x128

/-- The shape of argument `i`. -/
abbrev inS : Fin 7 → Shape
  | 0 => S128x128 | 1 => S128x256 | 2 => S256x128 | 3 => S128x256 | 4 => S256x128 | 5 => S128x256 | 6 => S256x128
/-- Argument `i` where the caller put it. -/
def inSrc : (i : Fin 7) → Memref sig .tc .hbm (inS i) .f32
  | 0 => Memref.whole main_arg0 | 1 => Memref.whole main_arg1 | 2 => Memref.whole main_arg2 | 3 => Memref.whole main_arg3
  | 4 => Memref.whole main_arg4 | 5 => Memref.whole main_arg5 | 6 => Memref.whole main_arg6
/-- Argument `i` where the kernel reads it. -/
def inDst : (i : Fin 7) → Memref sig .tc .vmem (inS i) .f32
  | 0 => Memref.whole cc0_scratch6 | 1 => Memref.whole cc0_scratch7 | 2 => Memref.whole cc0_scratch8
  | 3 => Memref.whole cc0_scratch9 | 4 => Memref.whole cc0_scratch10 | 5 => Memref.whole cc0_scratch11
  | 6 => Memref.whole cc0_scratch12

/-- An argument is read as a whole buffer, -/
theorem inSrc_whole : ∀ i, (inSrc i).IsWhole
  | 0 => Memref.isWhole_whole _ | 1 => Memref.isWhole_whole _ | 2 => Memref.isWhole_whole _ | 3 => Memref.isWhole_whole _
  | 4 => Memref.isWhole_whole _ | 5 => Memref.isWhole_whole _ | 6 => Memref.isWhole_whole _
/-- and copied into a whole one. -/
theorem inDst_whole : ∀ i, (inDst i).IsWhole
  | 0 => Memref.isWhole_whole _ | 1 => Memref.isWhole_whole _ | 2 => Memref.isWhole_whole _ | 3 => Memref.isWhole_whole _
  | 4 => Memref.isWhole_whole _ | 5 => Memref.isWhole_whole _ | 6 => Memref.isWhole_whole _

/-! ## The body as chains -/

/-- The operations of a TensorCore. -/
abbrev OpT (F : FTy → Type) : Type → Type := TpuEff nD τ sig (Elt F) Λ₀ .tc

/-- The operations `f i` for `i` along the list, then `k`. -/
def opChain {ι α : Type} (f : ι → (OpT F) PUnit) (k : Prog (OpT F) α) (l : List ι) : Prog (OpT F) α :=
  l.foldr (fun i r => .op (f i) fun _ => r) k

/-- The distances of a four-way exchange. -/
abbrev ks : List (Fin 4) := [1, 2, 3]
/-- The distances of the last exchange. -/
abbrev ks2 : List (Fin 16) := [1, 2, 3, 4, 5, 6, 7, 8, 9, 10, 11, 12, 13, 14, 15]
/-- The barrier signals, in order. -/
abbrev sigL : List (Fin 4 × Fin 4) := [(0, 1), (1, 1), (0, 2), (1, 2), (0, 3), (1, 3)]

/-- The start of the copy of argument `i`. -/
def inCopy (i : Fin 7) : (OpT F) PUnit :=
  .enqueueDma (inSrc i) (.here (inDst i)) (.dma (sem7 cc0_scratch13 i)) (inSrc_whole i).wordExact (inDst_whole i).wordExact
    ⟨Or.inl rfl, trivial⟩
/-- The wait for the copy of argument `i`. -/
def inWait (i : Fin 7) : (OpT F) PUnit :=
  .waitDma2 (sem7 cc0_scratch13 i) (inSrc i) (inDst i) (inSrc_whole i).wordExact (inDst_whole i).wordExact

/-- Copy `k` of exchange `st`, to device `e`. -/
def stSend (e : Dev nD) (st k : Fin 4) : (OpT F) PUnit :=
  .enqueueDma (slotM (commM st) 0) (.remote (Dev.tc e) (slotM (commM st) k) (.dma (sem4 (sendA st) k)))
    (.dma (sem4 (recvA st) k)) (slotM_word _ (commM_whole st) 0) (slotM_word _ (commM_whole st) k) ⟨⟨rfl, Or.inl rfl⟩, trivial⟩
/-- The wait for what lands in slot `k` in exchange `st`. -/
def stRecv (st k : Fin 4) : (OpT F) PUnit :=
  .waitDma2 (sem4 (recvA st) k) (slotM (commM st) 0) (slotM (commM st) k)
    (slotM_word _ (commM_whole st) 0) (slotM_word _ (commM_whole st) k)
/-- The wait for the end of copy `k` of exchange `st`. -/
def stDone (st k : Fin 4) : (OpT F) PUnit :=
  .waitDma2 (sem4 (sendA st) k) (slotM (commM st) k) (slotM (commM st) 0)
    (slotM_word _ (commM_whole st) k) (slotM_word _ (commM_whole st) 0)

/-- Copy `k` of the last exchange, from device `d` to device `e`. -/
def r2Send (d e : Dev nD) (k : Fin 16) : (OpT F) PUnit :=
  .enqueueDma (rowM d k) (.remote (Dev.tc e) (slot2M k) (.dma (sem16 cc0_scratch22 k)))
    (.dma (sem16 cc0_scratch23 k)) (View.wordExact_bits rfl) ((View.wordExact_bits rfl).reshape _ _) ⟨⟨rfl, Or.inl rfl⟩, trivial⟩
/-- The wait for what lands in slot `k` in the last exchange. -/
def r2Recv (d : Dev nD) (k : Fin 16) : (OpT F) PUnit :=
  .waitDma2 (sem16 cc0_scratch23 k) (rowM d k) (slot2M k) (View.wordExact_bits rfl) ((View.wordExact_bits rfl).reshape _ _)
/-- The wait for the end of copy `k` of the last exchange. -/
def r2Done (d : Dev nD) (k : Fin 16) : (OpT F) PUnit :=
  .waitDma2 (sem16 cc0_scratch22 k) (slot2M k) (rowM d k) ((View.wordExact_bits rfl).reshape _ _) (View.wordExact_bits rfl)

/-- Exchange `st`, copy `k` going to `dv k`: the value stored into slot 0, sent to the three partners, the three
    partners' values awaited, the three sends awaited, and the whole buffer handed to the continuation. -/
def stProg (dv : Fin 4 → Dev nD) (st : Fin 4) (v : FVec F S1x128x128 .bf16)
    (k : Vec F S4x128x128 .bf16 → Prog (OpT F) PUnit) : Prog (OpT F) PUnit :=
  .op (.load (commM st) (slotR 0).toLoadRect (View.loadsAt_vmem h_S1x128x128)) fun _ =>
  .op (.store (commM st) (slotR 0) v Finset.univ
    (View.stores_vmem h_S1x128x128 ((commM_whole st).storeExact_slice rfl _ (slotR_packed 0)) (fun _ => rfl)) (.inl rfl)) fun _ =>
  opChain (fun k => stSend (dv k) st k) (opChain (stRecv st) (opChain (stDone st)
    (.op (.load (commM st) allR.toLoadRect (View.loadsAt_vmem h_S4x128x128)) k) ks) ks) ks

/-- The last exchange: the product stored, its own eight rows put in slot 0, the other rows sent, the others' rows
    awaited, the sends awaited, and the sum stored into the result's buffer. -/
def r2Prog (d : Dev nD) (dv : Fin 16 → Dev nD) (mo : Memref sig .tc .vmem S8x128 .f32) (v : FVec F S128x128 .f32) : Prog (OpT F) PUnit :=
  .op (.load p2M (Rect.unit (s := S128x128) ![0, 0] S128x128.size inb_S128x128_S128x128_0_0).toLoadRect (View.loadsAt_vmem h_S128x128)) fun _ =>
  .op (.store p2M (Rect.unit (s := S128x128) ![0, 0] S128x128.size inb_S128x128_S128x128_0_0) (k0_pay8 v) Finset.univ
    (View.stores_vmem_bits_univ h_S128x128 rfl) (.inl rfl)) fun _ =>
  .op (.load p2M (Rect.unit (s := S128x128) (k0_off1 d) S8x128.size (k0_off1_inb d)).toLoadRect (View.loadsAt_vmem h_S8x128)) fun w =>
  .op (.load c2M (slot2R 0).toLoadRect (View.loadsAt_vmem h_S1x8x128)) fun _ =>
  .op (.store c2M (slot2R 0) (k0_pay9 w) Finset.univ (View.stores_vmem_bits_univ h_S1x8x128 rfl) (.inl rfl)) fun _ =>
  opChain (fun k => r2Send d (dv k) k) (opChain (r2Recv d) (opChain (r2Done d)
    (.op (.load c2M (Rect.unit (s := S16x8x128) ![0, 0, 0] S16x8x128.size inb_S16x8x128_S16x8x128_0_0_0).toLoadRect (View.loadsAt_vmem h_S16x8x128)) fun u =>
     .op (.load mo (Rect.unit (s := S8x128) ![0, 0] S8x128.size inb_S8x128_S8x128_0_0).toLoadRect (View.loadsAt_vmem h_S8x128)) fun _ =>
     .op (.store mo (Rect.unit (s := S8x128) ![0, 0] S8x128.size inb_S8x128_S8x128_0_0) (k0_pay1 u) Finset.univ
      (View.stores_vmem_bits_univ h_S8x128 rfl) (.inl rfl)) fun _ => .ret ⟨⟩) ks2) ks2) ks2

/-- The whole body: the barrier signals, the argument copies, the first layer, the two four-way exchanges, the
    second layer, two more, the last layer and the last exchange. -/
def prog (mo : Memref sig .tc .vmem S8x128 .f32) : Prog (OpT F) PUnit :=
  .op .deviceId fun d =>
  opChain (fun i => .semSignal (sigDev d i, .tc) barSem (1#32 : BitVec 32).toInt) (opChain inCopy (opChain inWait
    (.op (.load (inDst 0) (Rect.unit (s := S128x128) ![0, 0] S128x128.size inb_S128x128_S128x128_0_0).toLoadRect (View.loadsAt_vmem h_S128x128)) fun x =>
     .op (.load (inDst 1) (Rect.unit (s := S128x256) ![0, 0] S128x256.size inb_S128x256_S128x256_0_0).toLoadRect (View.loadsAt_vmem h_S128x256)) fun a0 =>
     .op (.load (inDst 2) (Rect.unit (s := S256x128) ![0, 0] S256x128.size inb_S256x128_S256x128_0_0).toLoadRect (View.loadsAt_vmem h_S256x128)) fun b0 =>
     .op (.semWait barSem (6#32 : BitVec 32).toInt) fun _ =>
     stProg (stDev d 0) 0 (k0_pay2 x a0 b0) fun A0 =>
     stProg (stDev d 1) 1 (k0_pay4 (k0_pay3 A0)) fun B0 =>
     opChain inWait
      (.op (.load (inDst 3) (Rect.unit (s := S128x256) ![0, 0] S128x256.size inb_S128x256_S128x256_0_0).toLoadRect (View.loadsAt_vmem h_S128x256)) fun a1 =>
       .op (.load (inDst 4) (Rect.unit (s := S256x128) ![0, 0] S256x128.size inb_S256x128_S256x128_0_0).toLoadRect (View.loadsAt_vmem h_S256x128)) fun b1 =>
       stProg (stDev d 2) 2 (k0_pay5 B0 a1 b1) fun A1 =>
       stProg (stDev d 3) 3 (k0_pay6 A1) fun B1 =>
       opChain inWait
        (.op (.load (inDst 5) (Rect.unit (s := S128x256) ![0, 0] S128x256.size inb_S128x256_S128x256_0_0).toLoadRect (View.loadsAt_vmem h_S128x256)) fun a2 =>
         .op (.load (inDst 6) (Rect.unit (s := S256x128) ![0, 0] S256x128.size inb_S256x128_S256x128_0_0).toLoadRect (View.loadsAt_vmem h_S256x128)) fun b2 =>
         r2Prog d (r2Dev d) mo (k0_pay7 B1 a2 b2)) [5, 6]) [3, 4]) [0, 1, 2]) [0, 1, 2, 3, 4, 5, 6]) sigL

set_option maxRecDepth 65536 in
/-- The printed body is the chains. -/
theorem body_eq_prog (t : Fin cfg0.N) : bodyAt0 (F := F) t = prog (win0_0.stage (cfg0.slots t 0)) := by
  chain_rfl

end Cert.Talk

end
-- ==== Proof.Views.lean ====
/-
# Pieces of a buffer and the contents they carry

A buffer cut into pieces is owned piece by piece (`slots_eq`, `slots2_eq`, `rows_eq`), and a write through a piece
makes it hold given contents as soon as the value written is what the piece reads of them (`write_eq_on`).
-/
module

public import proofs.«01_k».proof.Proof.Mesh
public import Idealize.ShloMosaic.Lib.Ring

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

section Generic

variable {sg : RefSig} {κ : Kind} {sp : Space} {s s' : Shape} {e : EltTy} {Val : EltTy → Type}

/-- Written through a view with what the view reads of `g`, a buffer holds `g` under the view. -/
theorem write_eq_on (v : View sg κ sp s e) (f g : v.ty.Contents Val) (w : s.Idx → Val e) (h : ∀ j, v.read Val g j = w j) :
    ∀ i ∈ v.set, v.write Val f w Finset.univ i = g i := by
  intro i hi
  obtain ⟨j, -, rfl⟩ := Finset.mem_map.mp hi
  rw [View.write_emb_of_mem _ _ (Finset.mem_univ j), ← h j, View.read_apply, cast_cast, cast_eq]

/-- A slice of a buffer reads the value the buffer was given. -/
theorem read_slice_rep [∀ e, Nonempty (Val e)] (v : View sg κ sp s e) (r : Rect s) (X : s.Idx → Val e) (j : r.shape.Idx) :
    (v.slice r).read Val (v.rep X) j = X (r.emb j) := congrFun (View.read_rep v X) (r.emb j)

/-- A slice seen at another shape reads it at the element the new index names. -/
theorem read_slice_reshape_rep [∀ e, Nonempty (Val e)] (v : View sg κ sp s e) (r : Rect s) (h : s'.numel = r.shape.numel)
    (X : s.Idx → Val e) (j : s'.Idx) :
    ((v.slice r).reshape s' h).read Val (v.rep X) j = X (r.emb (Shape.reshapeEquiv h j)) :=
  read_slice_rep v r X (Shape.reshapeEquiv h j)

/-- The elements of a view are those of rectangles that cover its shape. -/
theorem set_pieces {B : Type} [Fintype B] (v : View sg κ sp s e) (r : B → Rect s)
    (hc : Finset.univ.biUnion (fun b => (r b).set) = Finset.univ) : v.set = Finset.univ.biUnion fun b => (v.slice (r b)).set := by
  ext i
  constructor
  · intro hi
    obtain ⟨j, -, rfl⟩ := Finset.mem_map.mp hi
    obtain ⟨b, -, hb⟩ := Finset.mem_biUnion.mp (hc ▸ Finset.mem_univ j)
    refine Finset.mem_biUnion.mpr ⟨b, Finset.mem_univ _, ?_⟩
    rw [View.set_slice]; exact Finset.mem_map_of_mem _ hb
  · intro hi
    obtain ⟨b, -, hb⟩ := Finset.mem_biUnion.mp hi
    exact View.set_slice_subset v (r b) hb

/-- Disjoint rectangles of a view hold disjoint elements. -/
theorem pieces_disjoint (v : View sg κ sp s e) {r r' : Rect s} (h : Disjoint r.set r'.set) :
    Disjoint (v.slice r).set (v.slice r').set := by
  rw [View.set_slice, View.set_slice]; exact (Finset.disjoint_map _).mpr h

end Generic

variable {F : FTy → Type} [FloatOps F]
variable {Name : Type} [DecidableEq Name] {U : Type} [URA U] {Lvl : Type}

local notation "𝕄" => MT nD τ sig Unit (Elt F) Name U Lvl

/-- Device `c`'s buffer under a view, at share `q` and contents `f`. -/
def own {sp : Space} {s : Shape} {e : EltTy} (c : Dev nD) (v : View sig .tc sp s e) (q : PosShare TreeShare) (f : v.ty.Contents (Elt F)) : sProp 𝕄 :=
  View.loc (c : Thread nD τ) v ↦[v.set]{q} f

/-- A buffer under a view can be kept in an invariant. -/
instance own_storable {sp : Space} {s : Shape} {e : EltTy} (c : Dev nD) (v : View sig .tc sp s e) (q : PosShare TreeShare)
    (f : v.ty.Contents (Elt F)) : BI.Storable (upEmb : UEmb _ 𝕄) (own c v q f) := by unfold own; infer_instance

/-- Contents that agree under the view are owned alike. -/
theorem own_congr {sp : Space} {s : Shape} {e : EltTy} (c : Dev nD) (v : View sig .tc sp s e) (q : PosShare TreeShare)
    {f g : v.ty.Contents (Elt F)} (h : ∀ i ∈ v.set, f i = g i) : (own c v q f : sProp 𝕄) = own c v q g := by
  unfold own; exact pointsTo_congr h

/-- Different slots are apart, -/
theorem slot_disj : ∀ k k' : Fin 4, k ≠ k' → Disjoint (slotR k).set (slotR k').set :=
  Ring.lead_disjoint (s := S4x128x128) (NB := 4) 0 1 (fun k => ![k.val, 0, 0]) S1x128x128.size slot_inb (fun b => (Nat.one_mul _).symm) rfl
/-- and the four are the whole buffer. -/
theorem slot_cover : Finset.univ.biUnion (fun k => (slotR k).set) = Finset.univ :=
  Ring.lead_cover (s := S4x128x128) (NB := 4) 0 1 (fun k => ![k.val, 0, 0]) S1x128x128.size slot_inb (fun b => (Nat.one_mul _).symm)
    (fun b a ha => by fin_cases a <;> first | rfl | exact absurd rfl ha) rfl (fun a ha => by fin_cases a <;> first | rfl | exact absurd rfl ha) rfl

/-- An exchange buffer is its four slots. -/
theorem slots_eq (m : Memref sig .tc .vmem S4x128x128 .bf16) (c : Dev nD) (q : PosShare TreeShare) (f : m.view.ty.Contents (Elt F)) :
    (own c m.view q f : sProp 𝕄) = bigSep Finset.univ fun k : Fin 4 => own c (slotM m k).view q f := by
  have hs : ∀ k, (slotM m k).view.set = (m.view.slice (slotR k)).set := fun k => View.set_reshape _ _
  unfold own
  rw [set_pieces m.view slotR slot_cover, pointsTo_biUnion _ _ fun k _ k' _ h => pieces_disjoint m.view (slot_disj k k' h)]
  exact bigSep_congr fun k _ => by rw [hs k]; rfl

/-- Different landing slots are apart, -/
theorem slot2_disj : ∀ k k' : Fin 16, k ≠ k' → Disjoint (slot2R k).set (slot2R k').set :=
  Ring.lead_disjoint (s := S16x8x128) (NB := 16) 0 1 (fun k => ![k.val, 0, 0]) S1x8x128.size slot2_inb (fun b => (Nat.one_mul _).symm) rfl
/-- and the sixteen are the whole buffer. -/
theorem slot2_cover : Finset.univ.biUnion (fun k => (slot2R k).set) = Finset.univ :=
  Ring.lead_cover (s := S16x8x128) (NB := 16) 0 1 (fun k => ![k.val, 0, 0]) S1x8x128.size slot2_inb (fun b => (Nat.one_mul _).symm)
    (fun b a ha => by fin_cases a <;> first | rfl | exact absurd rfl ha) rfl (fun a ha => by fin_cases a <;> first | rfl | exact absurd rfl ha) rfl

/-- The last exchange's landing buffer is its sixteen slots. -/
theorem slots2_eq (c : Dev nD) (q : PosShare TreeShare) (f : (c2M : Memref sig .tc .vmem S16x8x128 .f32).view.ty.Contents (Elt F)) :
    (own c c2M.view q f : sProp 𝕄) = bigSep Finset.univ fun k : Fin 16 => own c (slot2M k).view q f := by
  have hs : ∀ k, (slot2M k).view.set = (c2M.view.slice (slot2R k)).set := fun k => View.set_reshape _ _
  unfold own
  rw [set_pieces c2M.view slot2R slot2_cover, pointsTo_biUnion _ _ fun k _ k' _ h => pieces_disjoint c2M.view (slot2_disj k k' h)]
  exact bigSep_congr fun k _ => by rw [hs k]; rfl

/-- Eight rows from a multiple of eight lie in the product. -/
theorem blk_inb : ∀ j : Fin 16, ∀ a, (![8 * j.val, 0] : Fin 2 → Nat) a + S8x128.size a ≤ S128x128.size a := by decide

/-- Block `j` of eight rows of the product. -/
abbrev blkR (j : Fin 16) : Rect S128x128 := Rect.unit (s := S128x128) ![8 * j.val, 0] S8x128.size (blk_inb j)

/-- Different blocks of rows are apart, -/
theorem blk_disj : ∀ k k' : Fin 16, k ≠ k' → Disjoint (blkR k).set (blkR k').set :=
  Ring.lead_disjoint (s := S128x128) (NB := 16) 0 8 (fun k => ![8 * k.val, 0]) S8x128.size blk_inb (fun b => rfl) rfl
/-- and the sixteen are the whole product. -/
theorem blk_cover : Finset.univ.biUnion (fun k => (blkR k).set) = Finset.univ :=
  Ring.lead_cover (s := S128x128) (NB := 16) 0 8 (fun k => ![8 * k.val, 0]) S8x128.size blk_inb (fun b => rfl)
    (fun b a ha => by fin_cases a <;> first | rfl | exact absurd rfl ha) rfl (fun a ha => by fin_cases a <;> first | rfl | exact absurd rfl ha) rfl

/-- The rows sent `k` steps on are the target's block. -/
theorem off2_eq : ∀ (d : Dev nD) (k : Fin 16), k0_off2 d (BitVec.ofNat 32 k.val) = ![8 * (rot k d).val, 0] := by decide +kernel
/-- The rows kept are the device's own block. -/
theorem off1_eq : ∀ (d : Dev nD), k0_off1 d = ![8 * (rot 0 d).val, 0] := by decide +kernel

/-- The rows device `d` sends `k` steps on are the block of the device they go to. -/
theorem rowR_eq (d : Dev nD) (k : Fin 16) : rowR d k = blkR (rot k d) := Rect.unit_congr (off2_eq d k) _ _

/-- Stepping on by each distance visits every device once. -/
def rotE (d : Dev nD) : Fin 16 ≃ Dev nD where
  toFun k := rot k d
  invFun t := t - d
  left_inv := (by decide +kernel : ∀ (d : Dev nD) (k : Fin 16), rot k d - d = k) d
  right_inv := (by decide +kernel : ∀ (d t : Dev nD), rot (t - d) d = t) d

/-- The product is the sixteen blocks of rows, by the distance they travel. -/
theorem rows_eq (c : Dev nD) (q : PosShare TreeShare) (f : (p2M : Memref sig .tc .vmem S128x128 .f32).view.ty.Contents (Elt F)) :
    (own c p2M.view q f : sProp 𝕄) = bigSep Finset.univ fun k : Fin 16 => own c (rowM c k).view q f := by
  have hs : ∀ k, (rowM c k).view.set = (p2M.view.slice (blkR (rotE c k))).set := fun k => by
    show (p2M.view.slice (rowR c k)).set = _
    rw [rowR_eq]; rfl
  unfold own
  rw [set_pieces p2M.view blkR blk_cover, pointsTo_biUnion _ _ fun k _ k' _ h => pieces_disjoint p2M.view (blk_disj k k' h),
    bigSep_univ_equiv (rotE c)]
  exact bigSep_congr fun k _ => by rw [hs k]; rfl

end Cert.Talk

end
-- ==== Proof.Sched.lean ====
/-
# What each semaphore is for

Every semaphore of the kernel is used once. This module names them (`Key`), says what each device's buffers hold
as the kernel runs (`stFull`, `prod`, `landed`), what each semaphore's credits hand over (`kpay`), in which order
waits may block (`klev`), and what each device still has to credit (`dues`).

The landing slots of the last exchange travel with the four-way exchanges: a device cannot know by itself that all
fifteen others have begun, but what reaches it in the first two four-way exchanges brings it, from every device, the
slot it will write there (`ext`).
-/
module

public import proofs.«01_k».proof.Proof.Views
public import Idealize.ShloMosaic.Lib.Rounds
public import Idealize.ShloMosaic.Lib.Pipeline.Kit

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Semaphores -/

/-- The kernel's own semaphores: the argument copies', the four-way exchanges' sends and receives, the last
    exchange's sends and receives. -/
abbrev OKey : Type := Fin 7 ⊕ (Fin 4 × Fin 4) ⊕ (Fin 4 × Fin 4) ⊕ Fin 16 ⊕ Fin 16
/-- Keys can be compared. -/
instance okeyEq : DecidableEq OKey := inferInstance
/-- All of them with the barrier. -/
abbrev Key : Type := Unit ⊕ OKey

/-- The barrier. -/
abbrev kBar : Key := .inl ()
/-- The semaphore of argument `i`'s copy. -/
abbrev kIn (i : Fin 7) : Key := .inr (.inl i)
/-- The send semaphore for distance `k` in exchange `st`. -/
abbrev kSnd (st k : Fin 4) : Key := .inr (.inr (.inl (st, k)))
/-- The receive semaphore of slot `k` in exchange `st`. -/
abbrev kRcv (st k : Fin 4) : Key := .inr (.inr (.inr (.inl (st, k))))
/-- The send semaphore for distance `k` in the last exchange. -/
abbrev kSnd2 (k : Fin 16) : Key := .inr (.inr (.inr (.inr (.inl k))))
/-- The receive semaphore of slot `k` in the last exchange. -/
abbrev kRcv2 (k : Fin 16) : Key := .inr (.inr (.inr (.inr (.inr k))))

/-- The semaphore of a key of the kernel's own. -/
def osem : OKey → SemLoc sig
  | .inl i => .dma (sem7 cc0_scratch13 i)
  | .inr (.inl (st, k)) => .dma (sem4 (sendA st) k)
  | .inr (.inr (.inl (st, k))) => .dma (sem4 (recvA st) k)
  | .inr (.inr (.inr (.inl k))) => .dma (sem16 cc0_scratch22 k)
  | .inr (.inr (.inr (.inr k))) => .dma (sem16 cc0_scratch23 k)

/-- The semaphore of a key. -/
def ksem : Key → SemLoc sig
  | .inl _ => .reg barSem
  | .inr o => osem o

set_option maxRecDepth 65536 in
/-- Different keys name different semaphores. -/
theorem ksem_inj : Function.Injective ksem := by
  have h : ∀ a b : Key, ksem a = ksem b → a = b := by decide +kernel
  exact fun a b => h a b

/-- Key `κ`'s semaphore on device `c`. -/
abbrev cell (c : Dev nD) (κ : Key) : GSem nD τ sig := ((c : Thread nD τ), ksem κ)

/-- Different devices or keys have different semaphores. -/
theorem cell_inj : Function.Injective fun x : Dev nD × Key => cell x.1 x.2 := by
  rintro ⟨c, κ⟩ ⟨c', κ'⟩ h
  have h1 : c = c' := congrArg (fun g : GSem nD τ sig => g.1.1) h
  have h2 : κ = κ' := ksem_inj (congrArg Prod.snd h)
  rw [h1, h2]

open Classical in
/-- The key of a semaphore, if it has one. -/
def dec (s : SemLoc sig) : Option Key := Function.partialInv ksem s

/-- A key's semaphore has that key. -/
theorem dec_ksem (κ : Key) : dec (ksem κ) = some κ := Function.partialInv_left ksem_inj κ

/-- A semaphore of no key. -/
theorem dec_none {s : SemLoc sig} (h : ∀ κ, ksem κ ≠ s) : dec s = none := by
  unfold dec Function.partialInv
  rw [dif_neg]; rintro ⟨κ, hκ⟩; exact h κ hκ

/-! ## Contents -/

section Contents

variable (m : (ℓ : Loc nD τ sig) → Buf (Elt F) ℓ)

/-- Argument `i` as device `c` holds it. -/
def ain (c : Dev nD) (i : Fin 7) : Vec F (inS i) .f32 := (inSrc i).view.read (Elt F) (m (View.loc (c : Thread nD τ) (inSrc i).view))

/-- An element of an exchange buffer, in its slot. -/
def inSlot (i : S4x128x128.Idx) : S1x128x128.Idx
  | 0 => (0 : Fin 1) | 1 => (i 1 : Fin 128) | 2 => (i 2 : Fin 128)

/-- What an exchange along axis `st` leaves on device `c`: slot `k` holds the value of the device `k` steps back. -/
def gather (st : Fin 4) (v : Dev nD → FVec F S1x128x128 .bf16) (c : Dev nD) : Vec F S4x128x128 .bf16 :=
  fun i => v (peer st (-(i 0 : Fin 4)) c) (inSlot i)

/-- The partial product of the first layer on device `c`. -/
def v0 (c : Dev nD) : FVec F S1x128x128 .bf16 := k0_pay2 (ain m c 0) (ain m c 1) (ain m c 2)
/-- Its sum over the plane. -/
def v1 (c : Dev nD) : FVec F S1x128x128 .bf16 := k0_pay4 (k0_pay3 (gather 0 (v0 m) c))
/-- The partial product of the second layer. -/
def v2 (c : Dev nD) : FVec F S1x128x128 .bf16 := k0_pay5 (gather 1 (v1 m) c) (ain m c 3) (ain m c 4)
/-- Its sum over the plane. -/
def v3 (c : Dev nD) : FVec F S1x128x128 .bf16 := k0_pay6 (gather 2 (v2 m) c)

/-- What device `c` sends in exchange `st`. -/
def stV : Fin 4 → Dev nD → FVec F S1x128x128 .bf16
  | 0 => v0 m | 1 => v1 m | 2 => v2 m | 3 => v3 m

/-- What exchange `st` leaves in its buffer on device `c`. -/
def stFull (st : Fin 4) (c : Dev nD) : Vec F S4x128x128 .bf16 := gather st (stV m st) c

/-- The partial product of the last layer on device `c`. -/
def prod (c : Dev nD) : FVec F S128x128 .f32 := k0_pay8 (k0_pay7 (stFull m 3 c) (ain m c 5) (ain m c 6))

/-- An element of the last exchange's landing buffer on device `c`, as a row and a column of the product it is from. -/
def inRow (c : Dev nD) (i : S16x8x128.Idx) : S128x128.Idx
  | 0 => (⟨8 * c.val + (i 1).val, by have h : c.val < 16 := c.isLt; have h' : (i 1).val < 8 := (i 1).isLt; show _ < 128; omega⟩ : Fin 128)
  | 1 => (i 2 : Fin 128)

/-- What the last exchange leaves on device `c`: slot `k` holds `c`'s rows of the product of the device `k` steps back. -/
def landed (c : Dev nD) : Vec F S16x8x128 .f32 := fun i => prod m (rot (-(i 0 : Fin 16)) c) (inRow c i)

/-- The kernel's result on device `c`. -/
def outAt (c : Dev nD) : Vec F S8x128 .f32 := k0_pay1 (landed m c)

/-- The contents of exchange `st`'s buffer on device `c` at the end, as contents of the buffer. -/
def stRep (st : Fin 4) (c : Dev nD) : (commM st).view.ty.Contents (Elt F) := (commM st).view.rep (stFull m st c)
/-- The product, as contents of its buffer. -/
def prodRep (c : Dev nD) : (p2M : Memref sig .tc .vmem S128x128 .f32).view.ty.Contents (Elt F) := p2M.view.rep (prod m c)
/-- What the last exchange leaves, as contents of the landing buffer. -/
def landRep (c : Dev nD) : (c2M : Memref sig .tc .vmem S16x8x128 .f32).view.ty.Contents (Elt F) := c2M.view.rep (landed m c)
/-- Argument `i`, as contents of the buffer the kernel reads it from. -/
def inRep (c : Dev nD) (i : Fin 7) : (inDst i).view.ty.Contents (Elt F) := (inDst i).view.rep (ain m c i)

end Contents

/-! ## What the credits hand over -/

/-- The names of a semaphore's duties: axis and distance for the barrier, `(0, 0)` for the others. -/
abbrev D : Type := Fin 4 × Fin 4
/-- The schedule's tokens. -/
abbrev UB : Type := URounds (GSem nD τ sig) D
/-- The pipeline's tokens and the schedule's. -/
abbrev UU : Type := UR sig nD τ × UB

local notation "𝕄" => MT nD τ sig Unit (Elt F) ℕ UU ℕ

/-- Where the pipeline's tokens are. -/
abbrev EP : Emb (UR sig nD τ) (MT nD τ sig Unit (Elt F) ℕ UU ℕ) := embL
/-- Where the schedule's are. -/
abbrev ER : Emb UB (MT nD τ sig Unit (Elt F) ℕ UU ℕ) := embR

variable (m : (ℓ : Loc nD τ sig) → Buf (Elt F) ℓ)

/-- A buffer at some contents. -/
def some' {sp : Space} {s : Shape} {e : EltTy} (c : Dev nD) (v : View sig .tc sp s e) : sProp 𝕄 := iprop(∃ f, own c v fullShare f)

/-- A buffer at some contents can be kept in an invariant. -/
instance some_storable {sp : Space} {s : Shape} {e : EltTy} (c : Dev nD) (v : View sig .tc sp s e) :
    BI.Storable (upEmb : UEmb _ 𝕄) (some' (F := F) c v) := by unfold some'; infer_instance

/-- The slot on device `t` that device `u` writes in the last exchange. -/
def slotOf (t u : Dev nD) : sProp 𝕄 := some' t (slot2M (t - u)).view

/-- The last exchange's slots that device `c` gets with what lands in slot `k` of exchange `st`: in the first
    exchange those of the sender for `c`'s column, in the second those for `c` of all the sender's plane. -/
def ext (st k : Fin 4) (c : Dev nD) : sProp 𝕄 :=
  match st with
  | 0 => bigSep Finset.univ fun j : Fin 4 => slotOf (peer 0 (-k) c) (peer 1 j c)
  | 1 => bigSep Finset.univ fun j : Fin 4 => slotOf (peer 0 j (peer 1 (-k) c)) c
  | _ => iprop(emp)

/-- The share of slot 0 that copy `k` reads. -/
def shareK (k : Fin 4) : PosShare TreeShare :=
  match k with
  | 1 => fullShare.left | 2 => fullShare.right.left | _ => fullShare.right.right

/-- What a partner's barrier signal for distance `k` along axis `ax` hands device `c`: the partner's two slots `k` on
    that axis. -/
def barPay (c : Dev nD) (i : D) : sProp 𝕄 :=
  iprop(some' (peer i.1 i.2 c) (slotM (commM i.1) i.2).view ∗ some' (peer i.1 i.2 c) (slotM (commM (i.1 + 2)) i.2).view)

/-- What the credits of each semaphore of device `c` hand it. -/
def kpay (c : Dev nD) (κ : Key) (d : D) : sProp 𝕄 :=
  match κ with
  | .inl _ => barPay c d
  | .inr (.inl i) => iprop(own c (inDst i).view fullShare (inRep m c i) ∗ own c (inSrc i).view fullShare (m (View.loc (c : Thread nD τ) (inSrc i).view)))
  | .inr (.inr (.inl (st, k))) => own c (slotM (commM st) 0).view (shareK k) (stRep m st c)
  | .inr (.inr (.inr (.inl (st, k)))) => iprop(own c (slotM (commM st) k).view fullShare (stRep m st c) ∗ ext st k c)
  | .inr (.inr (.inr (.inr (.inl k)))) => own c (rowM c k).view fullShare (prodRep m c)
  | .inr (.inr (.inr (.inr (.inr k)))) => own c (slot2M k).view fullShare (landRep m c)

/-- How much each credit of a semaphore is. -/
def kamt : Key → ℕ
  | .inl _ => 1
  | .inr (.inl i) => (inDst i).view.dmaCredit
  | .inr (.inr (.inl (st, k))) => (slotM (commM st) k).view.dmaCredit
  | .inr (.inr (.inr (.inl (st, k)))) => (slotM (commM st) k).view.dmaCredit
  | .inr (.inr (.inr (.inr (.inl k)))) => (slot2M k).view.dmaCredit
  | .inr (.inr (.inr (.inr (.inr k)))) => (slot2M k).view.dmaCredit

/-- Who credits a semaphore: six partners the barrier, one transfer each of the others that is used. -/
def kdut : Key → Finset D
  | .inl _ => {(0, 1), (1, 1), (0, 2), (1, 2), (0, 3), (1, 3)}
  | .inr (.inl _) => {(0, 0)}
  | .inr (.inr (.inl (_, k))) => if k = 0 then ∅ else {(0, 0)}
  | .inr (.inr (.inr (.inl (_, k)))) => if k = 0 then ∅ else {(0, 0)}
  | .inr (.inr (.inr (.inr (.inl k)))) => if k = 0 then ∅ else {(0, 0)}
  | .inr (.inr (.inr (.inr (.inr k)))) => if k = 0 then ∅ else {(0, 0)}

/-- No argument is empty. -/
theorem inS_pos : ∀ i, 0 < (inS i).numel := by decide

/-- Every credit is of at least one unit. -/
theorem kamt_pos : ∀ κ, 0 < kamt κ
  | .inl _ => Nat.one_pos
  | .inr (.inl i) => View.dmaCredit_pos _ (inS_pos i)
  | .inr (.inr (.inl (_, _))) => View.dmaCredit_pos _ (by decide)
  | .inr (.inr (.inr (.inl (_, _)))) => View.dmaCredit_pos _ (by decide)
  | .inr (.inr (.inr (.inr (.inl _)))) => View.dmaCredit_pos _ (by decide)
  | .inr (.inr (.inr (.inr (.inr _)))) => View.dmaCredit_pos _ (by decide)

/-- The schedule: one round of every semaphore of a TensorCore. -/
def sched : Rounds.Schedule (GSem nD τ sig) D 𝕄 where
  duties g r := if r = 0 ∧ g.1.2 = .tc then (dec g.2).elim ∅ kdut else ∅
  unitless _ := False
  amount g _ _ := (dec g.2).elim 1 kamt
  payload g _ d := (dec g.2).elim iprop(emp) fun κ => kpay m g.1.1 κ d
  amount_pos g _ _ _ := by cases h : dec g.2 with
    | none => exact Nat.one_pos
    | some κ => exact kamt_pos κ

/-- The slots that travel can be kept in an invariant, -/
instance ext_storable (st k : Fin 4) (c : Dev nD) : BI.Storable (upEmb : UEmb _ 𝕄) (ext (F := F) st k c) := by
  unfold ext slotOf; split <;> infer_instance

/-- and what a semaphore's credits hand over, -/
instance kpay_storable (c : Dev nD) (κ : Key) (d : D) : BI.Storable (upEmb : UEmb _ 𝕄) (kpay m c κ d) := by
  unfold kpay barPay
  split
  · infer_instance
  · infer_instance
  · exact own_storable c (slotM (commM _) 0).view _ _
  · rename_i st k
    have := own_storable (U := UU) (Lvl := ℕ) (Name := ℕ) c (slotM (commM st) k).view fullShare (stRep m st c)
    infer_instance
  · exact own_storable c (rowM c _).view fullShare _
  · exact own_storable c (slot2M _).view fullShare _

/-- at every semaphore of the schedule. -/
instance sched_storable (g : GSem nD τ sig) (r : ℕ) (d : D) : BI.Storable (upEmb : UEmb _ 𝕄) ((sched m).payload g r d) := by
  show BI.Storable upEmb ((dec g.2).elim iprop(emp) fun κ => kpay m g.1.1 κ d)
  cases dec g.2 <;> (simp only [Option.elim]; infer_instance)

/-- The duties of a key's semaphore are the key's. -/
theorem duties_cell (c : Dev nD) (κ : Key) : (sched m).duties (cell c κ) 0 = kdut κ := by
  dsimp only [sched]; rw [if_pos ⟨rfl, rfl⟩, dec_ksem]; rfl
/-- There is one round only. -/
theorem duties_later (g : GSem nD τ sig) (r : ℕ) (h : 1 ≤ r) : (sched m).duties g r = ∅ := by
  dsimp only [sched]; rw [if_neg fun h' => by omega]
/-- The credits of a key's semaphore are of the key's amount. -/
theorem amount_cell (c : Dev nD) (κ : Key) (r : ℕ) (d : D) : (sched m).amount (cell c κ) r d = kamt κ := by
  dsimp only [sched]; rw [dec_ksem]; rfl
/-- They hand over what the key says. -/
theorem payload_cell (c : Dev nD) (κ : Key) (r : ℕ) (d : D) : (sched m).payload (cell c κ) r d = kpay m c κ d := by
  dsimp only [sched]; rw [dec_ksem]; rfl
/-- A round's units are its duties times their amount. -/
theorem expect_cell (c : Dev nD) (κ : Key) : (sched m).expect (cell c κ) 0 = (kdut κ).card * kamt κ := by
  unfold Schedule.expect Schedule.amountOf
  rw [duties_cell, Finset.sum_congr rfl fun d _ => amount_cell m c κ 0 d, Finset.sum_const, smul_eq_mul]

/-! ## The order of the waits, and what is owed -/

/-- The level of a semaphore: a wait may block only where everything still owed is at a higher level. -/
def klev : Key → ℕ
  | .inl _ => 1
  | .inr (.inr (.inr (.inl (st, _)))) => 2 + st.val
  | .inr (.inr (.inr (.inr (.inr _)))) => 6
  | _ => 0

/-- The semaphores that have a level are the TensorCores'. -/
def L (g : GSem nD τ sig) : Finset Unit := if g.1.2 = .tc then {()} else ∅
/-- The level of a semaphore. -/
def lv (g : GSem nD τ sig) (_ : Unit) : ℕ := (dec g.2).elim 0 klev

/-- No other thread's semaphore has one; -/
theorem L_of_ne (g : GSem nD τ sig) (h : g.1.2 ≠ .tc) : L g = ∅ := if_neg h
/-- a TensorCore's has. -/
theorem L_tc (c : Dev nD) (sm : SemLoc sig) : L ((c : Thread nD τ), sm) = {()} := if_pos rfl
/-- A key's semaphore has the key's level. -/
theorem lv_cell (c : Dev nD) (κ : Key) : lv (cell c κ) () = klev κ := by unfold lv; rw [dec_ksem]; rfl

/-- The credits still owed, from the list of the semaphores they go to, the next one first. -/
def tl : List (Dev nD × Key) → CellTallies nD τ sig Unit
  | [] => 0
  | x :: xs => tl xs + tallyAt (cell x.1 x.2) () (kamt x.2)

/-- What is owed is owed to a semaphore of the list. -/
theorem tl_pos : ∀ (l : List (Dev nD × Key)) (g : GSem nD τ sig) (u : Unit), 0 < tl l g u → ∃ x ∈ l, g = cell x.1 x.2
  | [], g, u, h => absurd h (Nat.lt_irrefl 0)
  | x :: xs, g, u, h => by
    unfold tl at h
    rw [Pi.add_apply, Finsupp.add_apply, tallyAt_apply] at h
    by_cases hg : g = cell x.1 x.2 ∧ u = ()
    · exact ⟨x, List.mem_cons_self, hg.1⟩
    · rw [if_neg hg, Nat.add_zero] at h
      obtain ⟨y, hy, e⟩ := tl_pos xs g u h
      exact ⟨y, List.mem_cons_of_mem _ hy, e⟩

/-- A device may wait on a semaphore when all it owes is at higher levels. -/
theorem mayWait_of (c : Dev nD) (s : SemLoc sig) (n : ℕ) (hs : lv ((c : Thread nD τ), s) () = n) (l : List (Dev nD × Key))
    (h : ∀ x ∈ l, n < klev x.2) : (levAts L lv : sProp 𝕄) ⊢ MayWait (c : Thread nD τ) s () (tl l) :=
  MayOwe.of_cut (L := L) (lev := lv) n (fun p hp => by rw [Finset.mem_singleton.mp hp, L_tc]; exact Finset.mem_singleton_self _)
    (fun g u hg => by obtain ⟨x, hx, rfl⟩ := tl_pos l g u hg; exact Finset.mem_singleton_self _)
    (fun p hp => by rw [Finset.mem_singleton.mp hp]; exact hs.le)
    (fun g u hg => by obtain ⟨x, hx, rfl⟩ := tl_pos l g u hg; rw [lv_cell]; exact h x hx)

/-- The barrier signals device `c` owes. -/
def duesBar (c : Dev nD) (l : List (Fin 4 × Fin 4)) : List (Dev nD × Key) := l.map fun i => (peer i.1 i.2 c, kBar)
/-- The copies of exchange `st` it owes. -/
def duesSt (c : Dev nD) (st : Fin 4) (l : List (Fin 4)) : List (Dev nD × Key) := l.map fun k => (peer st k c, kRcv st k)
/-- The copies of the last exchange it owes. -/
def dues2 (c : Dev nD) (l : List (Fin 16)) : List (Dev nD × Key) := l.map fun k => (rot k c, kRcv2 k)

/-- What is owed from exchange `n` on, the last exchange counting as exchange 4. -/
def duesFrom (c : Dev nD) : ℕ → List (Dev nD × Key)
  | 0 => duesSt c 0 ks ++ (duesSt c 1 ks ++ (duesSt c 2 ks ++ (duesSt c 3 ks ++ dues2 c ks2)))
  | 1 => duesSt c 1 ks ++ (duesSt c 2 ks ++ (duesSt c 3 ks ++ dues2 c ks2))
  | 2 => duesSt c 2 ks ++ (duesSt c 3 ks ++ dues2 c ks2)
  | 3 => duesSt c 3 ks ++ dues2 c ks2
  | _ => dues2 c ks2

/-- What device `c` owes at the start. -/
def dues (c : Dev nD) : List (Dev nD × Key) := duesBar c sigL ++ duesFrom c 0

end Cert.Talk

end
-- ==== Proof.Steps.lean ====
/-
# One operation at a time

The rule of each operation of the body over this kernel's schedule — a barrier signal, an argument copy, a copy of
an exchange, a wait — and the rule that runs a chain of like operations from the rule of one (`wp_chain`).
-/
module

public import proofs.«01_k».proof.Proof.Sched
public import Idealize.ShloMosaic.Lib.Pipeline.Launch
public import Idealize.ShloMosaic.Lib.Pipeline.BigSepL

@[expose] public section

set_option maxRecDepth 8192

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The body has no loop. -/
abbrev 𝒱₀ : Variants := Variants.none

/-- Device `c` runs `p` and ends in `Q`. -/
abbrev WP {α : Type} (c : Dev nD) (p : Prog (OpT F) α) (Q : α → sProp 𝕄) : sProp 𝕄 :=
  wp frame (wpE (defs₀ (F := F)) 𝒱₀ (c : Thread nD τ) none) Set.univ p Q

/-- What every device knows throughout: each semaphore's invariant, that its round has begun, and the levels. -/
def recs (K : Dev nD × Key → ℕ) : sProp 𝕄 :=
  iprop((bigSep Finset.univ fun x : Dev nD × Key => cellInv ER (sched m) (K x) (cell x.1 x.2))
    ∗ (bigSep Finset.univ fun x : Dev nD × Key => reached ER (cell x.1 x.2) 0) ∗ levAts L lv)

/-- It stays known once it is. -/
instance recs_persistent (K : Dev nD × Key → ℕ) : BI.Persistent (recs m K) := by unfold recs; infer_instance

/-- Of it, one semaphore's invariant; -/
theorem recs_inv (K : Dev nD × Key → ℕ) (c : Dev nD) (κ : Key) : recs m K ⊢ cellInv ER (sched m) (K (c, κ)) (cell c κ) := by
  have h : (bigSep Finset.univ fun x : Dev nD × Key => (cellInv ER (sched m) (K x) (cell x.1 x.2) : sProp 𝕄)) ⊢ cellInv ER (sched m) (K (c, κ)) (cell c κ) :=
    bigSep_elim (Finset.mem_univ (c, κ))
  unfold recs
  iintro ⟨#H, -, -⟩
  iapply h; iexact H

/-- that one semaphore's round has begun; -/
theorem recs_reached (K : Dev nD × Key → ℕ) (c : Dev nD) (κ : Key) : recs m K ⊢ reached ER (cell c κ) 0 := by
  have h : (bigSep Finset.univ fun x : Dev nD × Key => (reached ER (cell x.1 x.2) 0 : sProp 𝕄)) ⊢ reached ER (cell c κ) 0 :=
    bigSep_elim (Finset.mem_univ (c, κ))
  unfold recs
  iintro ⟨-, #H, -⟩
  iapply h; iexact H

/-- the levels. -/
theorem recs_lev (K : Dev nD × Key → ℕ) : recs m K ⊢ levAts L lv := by
  unfold recs
  iintro ⟨-, -, #H⟩
  iexact H

/-- Device `c` owes the credits of the list. -/
def owing (c : Dev nD) (l : List (Dev nD × Key)) : sProp 𝕄 := iprop(∃ W, owes (c : Thread nD τ) (tl l) W)

/-! ## Chains -/

/-- A chain of like operations runs from the rule of one: each takes its own `Rin i` to its `Rout i` and moves the
    state `St` past itself. -/
theorem wp_chain {ι α : Type} (c : Dev nD) (I : sProp 𝕄) [BI.Persistent I] (f : ι → (OpT F) PUnit) (k : Prog (OpT F) α) (Q : α → sProp 𝕄)
    (Rin Rout : ι → sProp 𝕄) (St : List ι → sProp 𝕄) (l : List ι)
    (h : ∀ i ∈ l, ∀ (r : List ι) (p : Prog (OpT F) α), r <:+ l → iprop(I ∗ Rin i ∗ St (i :: r) ∗ ((Rout i ∗ St r) -∗ WP c p Q)) ⊢ WP c (.op (f i) fun _ => p) Q) :
    iprop(I ∗ bigSepL l Rin ∗ St l ∗ ((bigSepL l Rout ∗ St []) -∗ WP c k Q)) ⊢ WP c (opChain f k l) Q := by
  induction l with
  | nil =>
    iintro ⟨-, -, HS, Hk⟩
    iapply Hk
    isplitr
    · rw [bigSepL_nil]; iempintro
    · iexact HS
  | cons i r ih =>
    rw [bigSepL_cons', bigSepL_cons']
    iintro ⟨#HI, ⟨Hi, Hr⟩, HS, Hk⟩
    iapply (h i List.mem_cons_self r (opChain f k r) (List.suffix_cons i r))
    isplitr; · iexact HI
    isplitl [Hi]; · iexact Hi
    isplitl [HS]; · iexact HS
    iintro ⟨Ho, HS⟩
    iapply (ih fun j hj r' p hs => h j (List.mem_cons_of_mem _ hj) r' p (hs.trans (List.suffix_cons i r)))
    isplitr; · iexact HI
    isplitl [Hr]; · iexact Hr
    isplitl [HS]; · iexact HS
    iintro ⟨Hos, HS⟩
    iapply Hk
    isplitl [Ho Hos]
    · isplitl [Ho] <;> iassumption
    · iexact HS

/-! ## Operations -/

variable (K : Dev nD × Key → ℕ)

/-- A wait for the one transfer a semaphore is for: what the transfer hands over, and the semaphore back at zero. -/
theorem wp_take {α : Type} (c : Dev nD) (κ : Key) {sm : DmaSem sig} {sp sp' : Space} {s s' : Shape} {e e' : EltTy}
    {src : Memref sig .tc sp' s' e'} {dst : Memref sig .tc sp s e} {hsrc : src.view.WordExact} {hdst : dst.view.WordExact}
    (hs : ksem κ = .dma sm) (hN : dst.view.dmaCredit = kamt κ) (hd : kdut κ = {(0, 0)}) (l : List (Dev nD × Key))
    (hl : ∀ x ∈ l, klev κ < klev x.2) (p : Prog (OpT F) α) (Q : α → sProp 𝕄) :
    iprop(recs m K ∗ (cred (tallyAt (cell c κ) () (kamt κ)) ∗ atPos ER (cell c κ) 0 ∅ 0) ∗ owing c l
        ∗ (((semVal (cell c κ) 0 ∗ kpay m c κ (0, 0)) ∗ owing c l) -∗ WP c p Q))
      ⊢ WP c (.op (.waitDma2 sm src dst hsrc hdst) fun _ => p) Q := by
  have hmw : recs m K ⊢ MayWait (c : Thread nD τ) (.dma sm) () (tl l) := by
    have h1 := mayWait_of (F := F) c (ksem κ) (klev κ) (lv_cell c κ) l hl
    rw [hs] at h1
    exact BI.Entails.trans (recs_lev m K) h1
  have hexp : 0 + dst.view.dmaCredit = (sched m).expect ((c : Thread nD τ), .dma sm) 0 := by
    rw [← hs, expect_cell m c κ, hd, hN, Finset.card_singleton, one_mul, zero_add]
  have hpay : bigSep ((sched m).duties ((c : Thread nD τ), .dma sm) 0 \ ∅) (fun d => (sched m).payload ((c : Thread nD τ), .dma sm) 0 d) = kpay m c κ (0, 0) := by
    rw [← hs, Finset.sdiff_empty, duties_cell m c κ, hd, bigSep_singleton]; exact payload_cell m c κ 0 _
  have hinv := recs_inv m K c κ
  unfold owing cell
  unfold cell at hinv
  rw [hs] at hinv ⊢
  rw [← hN]
  iintro ⟨#HR, ⟨Hc, Hat⟩, ⟨%W, HO⟩, Hk⟩
  iapply (Rounds.wp_wait_rest_token 𝒱₀ ER (sched m) (c : Thread nD τ) none (κ := K (c, κ))
      (wpE_waitDma2_eq 𝒱₀ (c : Thread nD τ) none Set.univ) (Set.mem_univ _) () (O := tl l) (W := W) (R := 0) (m := 0) (T := ∅) hexp) $$ [Hc HO Hat]
  · isplitr; · iapply hinv; iexact HR
    isplitl [Hc]; · iexact Hc
    isplitl [HO]; · iexact HO
    isplitr; · iapply hmw; iexact HR
    iexact Hat
  iintro ⟨HO, Hat, -, Hp⟩
  ihave Hp' := (Entails.of_eq hpay) $$ Hp
  imod (Rounds.cell_close ER (sched m) (Set.mem_univ (K (c, κ))) (fun h => h) (R := 0 + 1) (duties_later m _)) $$ [Hat] with Hz
  · isplitr; · iapply hinv; iexact HR
    iexact Hat
  iapply Hk
  isplitl [Hz Hp']
  · isplitl [Hz] <;> iassumption
  iexists _; iexact HO

/-- The duty a barrier signal pays is one of the barrier's. -/
theorem sig_duty : ∀ i : D, i ∈ sigL → (i.1, -i.2) ∈ kdut kBar := by decide

/-- A barrier signal hands the partner this device's two slots it will write. -/
theorem wp_tell {α : Type} (c e : Dev nD) (i : D) (he : e = peer i.1 i.2 c) (hi : i ∈ sigL) (l : List (Dev nD × Key))
    (p : Prog (OpT F) α) (Q : α → sProp 𝕄) :
    iprop(recs m K ∗ (barPay e (i.1, -i.2) ∗ dutyTok ER (cell (peer i.1 i.2 c) kBar) 0 (i.1, -i.2)) ∗ owing c ((peer i.1 i.2 c, kBar) :: l)
        ∗ ((emp ∗ owing c l) -∗ WP c p Q))
      ⊢ WP c (.op (.semSignal (e, .tc) barSem (1#32 : BitVec 32).toInt) fun _ => p) Q := by
  subst he
  have hm : (i.1, -i.2) ∈ kdut kBar := sig_duty i hi
  have hp : barPay (peer i.1 i.2 c) (i.1, -i.2) = (sched m).payload (((peer i.1 i.2 c : Dev nD) : Thread nD τ), .reg barSem) 0 (i.1, -i.2) :=
    (payload_cell m (peer i.1 i.2 c) kBar 0 (i.1, -i.2)).symm
  unfold owing
  iintro ⟨#HR, ⟨Hp, Ht⟩, ⟨%W, HO⟩, Hk⟩
  iapply (Rounds.wp_signal 𝒱₀ ER (sched m) (c : Thread nD τ) none (dst := (peer i.1 i.2 c : Thread nD τ)) (sem := barSem)
      (κ := K (peer i.1 i.2 c, kBar)) (r := 0) (d := (i.1, -i.2))
      (by
        rw [show (((peer i.1 i.2 c : Dev nD) : Thread nD τ), SemLoc.reg barSem) = cell (peer i.1 i.2 c) kBar from rfl, duties_cell]
        exact hm)
      (amount_cell m (peer i.1 i.2 c) kBar 0 _) () (tl l) rfl)
    $$ [HO Ht Hp]
  · isplitr; · iapply (recs_inv m K (peer i.1 i.2 c) kBar); iexact HR
    isplitl [HO]; · iexact HO
    isplitl [Ht]; · iexact Ht
    isplitl [Hp]
    · rw [← hp]; iexact Hp
    iapply (recs_reached m K (peer i.1 i.2 c) kBar); iexact HR
  iintro HO
  iapply Hk
  isplitr; · iempintro
  iexists W; iexact HO

/-- The one duty of a semaphore that is for a transfer. -/
theorem duty_mem (c : Dev nD) (κ : Key) (h : kdut κ = {(0, 0)}) : (0, 0) ∈ (sched m).duties (cell c κ) 0 := by
  rw [duties_cell, h]; exact Finset.mem_singleton_self _

/-- What makes a semaphore's payload, as the schedule states it. -/
theorem pay_into (c : Dev nD) (κ : Key) {P : sProp 𝕄} (h : P ⊢ kpay m c κ (0, 0)) : P ⊢ (sched m).payload (cell c κ) 0 (0, 0) := by
  rw [payload_cell]; exact h

/-- An argument copy, started. -/
theorem wp_fetch {α : Type} (c : Dev nD) (i : Fin 7) (l : List (Dev nD × Key)) (p : Prog (OpT F) α) (Q : α → sProp 𝕄) :
    iprop(recs m K ∗ (own c (inSrc i).view fullShare (m (View.loc (c : Thread nD τ) (inSrc i).view)) ∗ some' c (inDst i).view
          ∗ dutyTok ER (cell c (kIn i)) 0 (0, 0)) ∗ owing c l
        ∗ ((cred (tallyAt (cell c (kIn i)) () (kamt (kIn i))) ∗ owing c l) -∗ WP c p Q))
      ⊢ WP c (.op (inCopy i) fun _ => p) Q := by
  unfold some' own
  iintro ⟨#HR, ⟨Hs, ⟨%f, Hd⟩, Ht⟩, HO, Hk⟩
  iapply (Rounds.wp_copy_pointsTo 𝒱₀ ER (sched m) (c : Thread nD τ) none (κ := K (c, kIn i)) (r := 0) (d := (0, 0)) (fd := f)
      (duty_mem m (c) (kIn i) (rfl))
      () (kamt (kIn i)) rfl (amount_cell m c (kIn i) 0 _)
      (pay_into m c (kIn i) (by
        refine sep_mono_left (Entails.of_eq ?_)
        exact own_congr c (inDst i).view fullShare (write_eq_on (inDst i).view _ (inRep m c i) _ fun j => congrFun (View.read_rep _ _) j))))
    $$ [Hs Hd Ht]
  · isplitr; · iapply (recs_inv m K c (kIn i)); iexact HR
    isplitl [Hs]; · iexact Hs
    isplitl [Hd]; · iexact Hd
    isplitl [Ht]; · iexact Ht
    iapply (recs_reached m K c (kIn i)); iexact HR
  iintro Hc
  iapply Hk
  isplitl [Hc]; · iexact Hc
  iexact HO

/-- Slot `k` of what an exchange leaves is the value of the device `k` steps back. -/
theorem gather_slot (st k : Fin 4) (v : Dev nD → FVec F S1x128x128 .bf16) (c : Dev nD) (y : S1x128x128.Idx) :
    gather st v c ((slotR k).emb y) = v (peer st (-k) c) y := by
  have h0 : (((slotR k).emb y 0 : Fin 4)) = k := Fin.ext (by
    have : (y 0).val < 1 := (y 0).isLt
    show k.val + 1 * (y 0).val = k.val; omega)
  have h1 : inSlot ((slotR k).emb y) = y := by
    funext a
    fin_cases a
    · exact Subsingleton.elim (α := Fin 1) _ _
    · exact Fin.ext (by show 0 + 1 * (y 1).val = (y 1).val; omega)
    · exact Fin.ext (by show 0 + 1 * (y 2).val = (y 2).val; omega)
  unfold gather; rw [h0, h1]; rfl

/-- What a copy of exchange `st` writes in the slot it goes to. -/
theorem st_read (c : Dev nD) (st k : Fin 4) (j : S128x128.Idx) :
    (slotM (commM st) k).view.read (Elt F) (stRep m st (peer st k c)) j = (slotM (commM st) 0).view.read (Elt F) (stRep m st c) j := by
  have h0 : (slotM (commM st) 0).view.read (Elt F) (stRep m st c) j = stFull m st c ((slotR 0).emb (Shape.reshapeEquiv squeezes_S1x128x128_S128x128.numel_eq j)) :=
    read_slice_reshape_rep (commM st).view (slotR 0) _ (stFull m st c) j
  have hk : (slotM (commM st) k).view.read (Elt F) (stRep m st (peer st k c)) j
      = stFull m st (peer st k c) ((slotR k).emb (Shape.reshapeEquiv squeezes_S1x128x128_S128x128.numel_eq j)) :=
    read_slice_reshape_rep (commM st).view (slotR k) _ (stFull m st (peer st k c)) j
  rw [h0, hk]
  unfold stFull
  refine (gather_slot st k (stV m st) (peer st k c) _).trans (Eq.trans ?_ (gather_slot st 0 (stV m st) c _).symm)
  rw [neg_peer]
  exact congrFun (congrArg (stV m st) (peer_zero st c).symm) _

/-- A copy of a four-way exchange, with the last exchange's slots that go with it. -/
theorem wp_post {α : Type} (c e : Dev nD) (st k : Fin 4) (he : e = peer st k c) (hk : k ≠ 0) (l : List (Dev nD × Key))
    (p : Prog (OpT F) α) (Q : α → sProp 𝕄) :
    iprop(recs m K ∗ (own c (slotM (commM st) 0).view (shareK k) (stRep m st c) ∗ some' (peer st k c) (slotM (commM st) k).view
          ∗ ext st k (peer st k c) ∗ dutyTok ER (cell c (kSnd st k)) 0 (0, 0) ∗ dutyTok ER (cell (peer st k c) (kRcv st k)) 0 (0, 0))
        ∗ owing c ((peer st k c, kRcv st k) :: l)
        ∗ ((cred (tallyAt (cell c (kSnd st k)) () (kamt (kSnd st k))) ∗ owing c l) -∗ WP c p Q))
      ⊢ WP c (.op (stSend e st k) fun _ => p) Q := by
  subst he
  have hd : kdut (kSnd st k) = {(0, 0)} := if_neg hk
  have hd' : kdut (kRcv st k) = {(0, 0)} := if_neg hk
  unfold some' owing own
  iintro ⟨#HR, ⟨Hs, ⟨%f, Hd⟩, He, Ht, Ht'⟩, ⟨%W, HO⟩, Hk⟩
  iapply (Rounds.wp_send_pointsTo_with 𝒱₀ ER (sched m) (c : Thread nD τ) none (κ₁ := K (c, kSnd st k)) (κ₂ := K (peer st k c, kRcv st k))
      (r₁ := 0) (r₂ := 0) (d₁ := (0, 0)) (d₂ := (0, 0)) (fd := f) (F := ext st k (peer st k c))
      (duty_mem m (c) (kSnd st k) (hd))
      (duty_mem m (peer st k c) (kRcv st k) (hd'))
      () () (kamt (kSnd st k)) rfl (amount_cell m c (kSnd st k) 0 _) (amount_cell m (peer st k c) (kRcv st k) 0 _) (tl l) rfl (W := W)
      (Entails.of_eq (payload_cell m c (kSnd st k) 0 (0, 0)).symm)
      (pay_into m (peer st k c) (kRcv st k) (by
        refine sep_mono_left (Entails.of_eq ?_)
        exact own_congr (peer st k c) (slotM (commM st) k).view fullShare
          (write_eq_on (slotM (commM st) k).view _ (stRep m st (peer st k c)) _ (st_read m c st k)))))
    $$ [Hs Hd He Ht Ht' HO]
  · isplitr; · iapply (recs_inv m K c (kSnd st k)); iexact HR
    isplitr; · iapply (recs_inv m K (peer st k c) (kRcv st k)); iexact HR
    isplitl [Hs]; · iexact Hs
    isplitl [Hd He]
    · isplitl [Hd]; · iexact Hd
      iexact He
    isplitl [HO]; · iexact HO
    isplitl [Ht]; · iexact Ht
    isplitr; · iapply (recs_reached m K c (kSnd st k)); iexact HR
    isplitl [Ht']; · iexact Ht'
    iapply (recs_reached m K (peer st k c) (kRcv st k)); iexact HR
  iintro ⟨Hc, HO⟩
  iapply Hk
  isplitl [Hc]; · iexact Hc
  iexists W; iexact HO

/-- Slot `k` of what the last exchange leaves on device `c` is its rows of the product of the device `k` steps back. -/
theorem landed_slot (k : Fin 16) (c : Dev nD) (j : S8x128.Idx) :
    landed m c ((slot2R k).emb (Fin.cons ⟨0, Nat.one_pos⟩ j)) = prod m (rot (-k) c) ((blkR c).emb j) := by
  have h0 : (((slot2R k).emb (Fin.cons ⟨0, Nat.one_pos⟩ j) 0 : Fin 16)) = k := Fin.ext (by
    show k.val + 1 * 0 = k.val; omega)
  have h1 : inRow c ((slot2R k).emb (Fin.cons ⟨0, Nat.one_pos⟩ j)) = (blkR c).emb j := by
    funext a
    fin_cases a
    · exact Fin.ext (by show 8 * c.val + (0 + 1 * (j 0).val) = 8 * c.val + 1 * (j 0).val; omega)
    · exact Fin.ext (by show 0 + 1 * (j 1).val = 0 + 1 * (j 1).val; rfl)
  unfold landed; rw [h0, h1]; rfl

/-- An element of the rows sent `k` steps on, as an element of the product. -/
theorem rowR_emb (c : Dev nD) (k : Fin 16) (j : S8x128.Idx) : (rowR c k).emb j = (blkR (rot k c)).emb j := by
  funext a
  exact Fin.ext (congrArg (· + 1 * (j a).val) (congrFun (off2_eq c k) a))

/-- What a copy of the last exchange writes in the slot it goes to. -/
theorem r2_read (c : Dev nD) (k : Fin 16) (j : S8x128.Idx) :
    (slot2M k).view.read (Elt F) (landRep m (rot k c)) j = (rowM c k).view.read (Elt F) (prodRep m c) j := by
  have hL : (slot2M k).view.read (Elt F) (landRep m (rot k c)) j
      = landed m (rot k c) ((slot2R k).emb (Shape.reshapeEquiv squeezes_S1x8x128_S8x128.numel_eq j)) :=
    read_slice_reshape_rep c2M.view (slot2R k) _ (landed m (rot k c)) j
  have hR : (rowM c k).view.read (Elt F) (prodRep m c) j = prod m c ((rowR c k).emb j) := by
    unfold rowM prodRep
    generalize prod m c = X
    exact read_slice_rep (Val := Elt F) p2M.view (rowR c k) X j
  have hc : Shape.reshapeEquiv (s' := S8x128) (s := S1x8x128) squeezes_S1x8x128_S8x128.numel_eq j = Fin.cons ⟨0, Nat.one_pos⟩ j :=
    Shape.reshapeEquiv_cons_one (n := 2) (d := ![8, 128]) _ j
  have hq := landed_slot m k (rot k c) j
  rw [neg_rot] at hq
  rw [hL, hR, rowR_emb, hc]
  exact hq

/-- A copy of the last exchange. -/
theorem wp_post2 {α : Type} (c e : Dev nD) (k : Fin 16) (he : e = rot k c) (hk : k ≠ 0) (l : List (Dev nD × Key))
    (p : Prog (OpT F) α) (Q : α → sProp 𝕄) :
    iprop(recs m K ∗ (own c (rowM c k).view fullShare (prodRep m c) ∗ some' (rot k c) (slot2M k).view
          ∗ dutyTok ER (cell c (kSnd2 k)) 0 (0, 0) ∗ dutyTok ER (cell (rot k c) (kRcv2 k)) 0 (0, 0))
        ∗ owing c ((rot k c, kRcv2 k) :: l)
        ∗ ((cred (tallyAt (cell c (kSnd2 k)) () (kamt (kSnd2 k))) ∗ owing c l) -∗ WP c p Q))
      ⊢ WP c (.op (r2Send c e k) fun _ => p) Q := by
  subst he
  have hd : kdut (kSnd2 k) = {(0, 0)} := if_neg hk
  have hd' : kdut (kRcv2 k) = {(0, 0)} := if_neg hk
  unfold some' owing own
  iintro ⟨#HR, ⟨Hs, ⟨%f, Hd⟩, Ht, Ht'⟩, ⟨%W, HO⟩, Hk⟩
  iapply (Rounds.wp_send_pointsTo 𝒱₀ ER (sched m) (c : Thread nD τ) none (κ₁ := K (c, kSnd2 k)) (κ₂ := K (rot k c, kRcv2 k))
      (r₁ := 0) (r₂ := 0) (d₁ := (0, 0)) (d₂ := (0, 0)) (fd := f)
      (duty_mem m (c) (kSnd2 k) (hd))
      (duty_mem m (rot k c) (kRcv2 k) (hd'))
      () () (kamt (kSnd2 k)) rfl (amount_cell m c (kSnd2 k) 0 _) (amount_cell m (rot k c) (kRcv2 k) 0 _) (tl l) rfl (W := W)
      (Entails.of_eq (payload_cell m c (kSnd2 k) 0 (0, 0)).symm)
      (pay_into m (rot k c) (kRcv2 k) (by
        refine Entails.of_eq ?_
        exact own_congr (rot k c) (slot2M k).view fullShare
          (write_eq_on (slot2M k).view _ (landRep m (rot k c)) _ (r2_read m c k)))))
    $$ [Hs Hd Ht Ht' HO]
  · isplitr; · iapply (recs_inv m K c (kSnd2 k)); iexact HR
    isplitr; · iapply (recs_inv m K (rot k c) (kRcv2 k)); iexact HR
    isplitl [Hs]; · iexact Hs
    isplitl [Hd]; · iexact Hd
    isplitl [HO]; · iexact HO
    isplitl [Ht]; · iexact Ht
    isplitr; · iapply (recs_reached m K c (kSnd2 k)); iexact HR
    isplitl [Ht']; · iexact Ht'
    iapply (recs_reached m K (rot k c) (kRcv2 k)); iexact HR
  iintro ⟨Hc, HO⟩
  iapply Hk
  isplitl [Hc]; · iexact Hc
  iexists W; iexact HO

end Cert.Talk

end
-- ==== Proof.Stage.lean ====
/-
# A four-way exchange

From a device's slot 0, its partners' slots and what it will hand on, an exchange leaves the device its whole buffer,
holding the four partners' values, and what the three copies it received hand over (`wp_stage`).
-/
module

public import proofs.«01_k».proof.Proof.Steps
public import Idealize.ShloMosaic.Lib.VecWindow

@[expose] public section

set_option maxRecDepth 8192

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A family over four, its first member and the rest. -/
theorem sep4 {M : Type} [URA M] (Φ : Fin 4 → sProp M) : bigSep Finset.univ Φ = iprop(Φ 0 ∗ bigSepL ks Φ) := by
  rw [← bigSepL_cons']; exact bigSep_univ_eq_bigSepL [0, 1, 2, 3] (by decide) (by decide) Φ

/-- A family over sixteen, its first member and the rest. -/
theorem sep16 {M : Type} [URA M] (Φ : Fin 16 → sProp M) : bigSep Finset.univ Φ = iprop(Φ 0 ∗ bigSepL ks2 Φ) := by
  rw [← bigSepL_cons']; exact bigSep_univ_eq_bigSepL [0, 1, 2, 3, 4, 5, 6, 7, 8, 9, 10, 11, 12, 13, 14, 15] (by decide) (by decide) Φ

/-- Two families along a list are one of pairs. -/
theorem sepL_sep {M I : Type} [URA M] (l : List I) (Φ Ψ : I → sProp M) :
    bigSepL l (fun i => iprop(Φ i ∗ Ψ i)) ⊣⊢ iprop(bigSepL l Φ ∗ bigSepL l Ψ) := by
  induction l with
  | nil =>
    rw [bigSepL_nil, bigSepL_nil, bigSepL_nil]
    constructor
    · iintro -; isplitl <;> iempintro
    · iintro -; iempintro
  | cons i r ih =>
    rw [bigSepL_cons', bigSepL_cons', bigSepL_cons']
    constructor
    · iintro ⟨⟨Ha, Hb⟩, Hr⟩
      ihave Hr' := ih.1 $$ Hr
      icases Hr' with ⟨Hc, Hd⟩
      isplitl [Ha Hc]
      · isplitl [Ha] <;> iassumption
      · isplitl [Hb] <;> iassumption
    · iintro ⟨⟨Ha, Hc⟩, ⟨Hb, Hd⟩⟩
      isplitl [Ha Hb]
      · isplitl [Ha] <;> iassumption
      · iapply ih.2
        isplitl [Hc] <;> iassumption

/-- A buffer in three shares. -/
theorem own_shares {sp : Space} {s : Shape} {e : EltTy} (c : Dev nD) (v : View sig .tc sp s e) (f : v.ty.Contents (Elt F)) :
    (own c v fullShare f : sProp 𝕄) ⊣⊢ bigSepL ks fun k => own c v (shareK k) f := by
  show (own c v fullShare f : sProp 𝕄) ⊣⊢ iprop(own c v fullShare.left f ∗ own c v fullShare.right.left f ∗ own c v fullShare.right.right f)
  unfold own
  exact (pointsTo_share (PosShare.mem_left_op_right fullShare)).trans
    (sep_congr_right (pointsTo_share (PosShare.mem_left_op_right fullShare.right)))

variable (K : Dev nD × Key → ℕ)

/-- Waits for one transfer each, in order. -/
theorem wp_takes {ι α : Type} (c : Dev nD) (f : ι → (OpT F) PUnit) (κ : ι → Key) (is : List ι) (l : List (Dev nD × Key))
    (hf : ∀ i ∈ is, ∀ (p : Prog (OpT F) α) (Q : α → sProp 𝕄),
      iprop(recs m K ∗ (cred (tallyAt (cell c (κ i)) () (kamt (κ i))) ∗ atPos ER (cell c (κ i)) 0 ∅ 0) ∗ owing c l
        ∗ (((semVal (cell c (κ i)) 0 ∗ kpay m c (κ i) (0, 0)) ∗ owing c l) -∗ WP c p Q)) ⊢ WP c (.op (f i) fun _ => p) Q)
    (k : Prog (OpT F) α) (Q : α → sProp 𝕄) :
    iprop(recs m K ∗ bigSepL is (fun i => iprop(cred (tallyAt (cell c (κ i)) () (kamt (κ i))) ∗ atPos ER (cell c (κ i)) 0 ∅ 0)) ∗ owing c l
        ∗ ((bigSepL is (fun i => iprop(semVal (cell c (κ i)) 0 ∗ kpay m c (κ i) (0, 0))) ∗ owing c l) -∗ WP c k Q))
      ⊢ WP c (opChain f k is) Q :=
  wp_chain c (recs m K) f k Q (fun i => iprop(cred (tallyAt (cell c (κ i)) () (kamt (κ i))) ∗ atPos ER (cell c (κ i)) 0 ∅ 0))
    (fun i => iprop(semVal (cell c (κ i)) 0 ∗ kpay m c (κ i) (0, 0))) (fun _ => owing c l) is fun i hi _ p _ => hf i hi p Q

/-- A slot is owned as a load or a store of the buffer there sees it. -/
theorem slot_access (c : Dev nD) (st : Fin 4) (f : (commM st).view.ty.Contents (Elt F)) :
    (own c (slotM (commM st) 0).view fullShare f : sProp 𝕄)
      = (View.loc (c : Thread nD τ) ((commM st).access (slotR 0)) ↦[((commM st).access (slotR 0)).set]{fullShare} f) := by
  have hs : (slotM (commM st) 0).view.set = ((commM st).access (slotR 0)).set := View.set_reshape _ _
  unfold own; rw [hs]; rfl

/-- What a device needs to send in exchange `st`: its partners' slots, what it hands on and the duties it pays. -/
def sendIn (st : Fin 4) (c : Dev nD) (k : Fin 4) : sProp 𝕄 :=
  iprop(some' (peer st k c) (slotM (commM st) k).view ∗ ext st k (peer st k c)
    ∗ dutyTok ER (cell c (kSnd st k)) 0 (0, 0) ∗ dutyTok ER (cell (peer st k c) (kRcv st k)) 0 (0, 0))

/-- What exchange `st` starts from on device `c`. -/
def stagePre (st : Fin 4) (c : Dev nD) : sProp 𝕄 :=
  iprop(some' c (slotM (commM st) 0).view ∗ bigSepL ks (sendIn st c)
    ∗ bigSepL ks (fun k => atPos ER (cell c (kSnd st k)) 0 ∅ 0)
    ∗ bigSepL ks (fun k => iprop(cred (tallyAt (cell c (kRcv st k)) () (kamt (kRcv st k))) ∗ atPos ER (cell c (kRcv st k)) 0 ∅ 0)))

/-- What it leaves. -/
def stagePost (st : Fin 4) (c : Dev nD) : sProp 𝕄 :=
  iprop(own c (commM st).view fullShare (stRep m st c) ∗ bigSepL ks (fun k => ext st k c)
    ∗ bigSepL ks (fun k => semVal (cell c (kSnd st k)) 0) ∗ bigSepL ks (fun k => semVal (cell c (kRcv st k)) 0))

/-- The level of what is received in an exchange is below all that is owed after it. -/
theorem klev_snd (st k : Fin 4) : klev (kSnd st k) = 0 := rfl

/-- Slot 0 after the store holds what the exchange leaves there. -/
theorem store_slot (c : Dev nD) (st : Fin 4) (f : (commM st).view.ty.Contents (Elt F)) :
    (own c (slotM (commM st) 0).view fullShare (((commM st).access (slotR 0)).write (Elt F) f (stV m st c) Finset.univ) : sProp 𝕄)
      = own c (slotM (commM st) 0).view fullShare (stRep m st c) := by
  refine own_congr c (slotM (commM st) 0).view fullShare ?_
  have hs : (slotM (commM st) 0).view.set = ((commM st).access (slotR 0)).set := View.set_reshape _ _
  rw [hs]
  refine write_eq_on ((commM st).access (slotR 0)) f (stRep m st c) (stV m st c) fun j => ?_
  refine (read_slice_rep (Val := Elt F) (commM st).view (slotR 0) (stFull m st c) j).trans ?_
  unfold stFull
  refine (gather_slot st 0 (stV m st) c j).trans ?_
  exact congrFun (congrArg (stV m st) (peer_zero st c)) j

/-- EXCHANGE `st`: from its slot 0 and what it sends, a device gets the whole buffer and what comes with the copies. -/
theorem wp_stage (c : Dev nD) (st : Fin 4) (dv : Fin 4 → Dev nD) (hdv : ∀ k, dv k = peer st k c)
    (rest : List (Dev nD × Key)) (hr : ∀ x ∈ rest, 2 + st.val < klev x.2)
    (k : Vec F S4x128x128 .bf16 → Prog (OpT F) PUnit) (Q : PUnit → sProp 𝕄) :
    iprop(recs m K ∗ stagePre st c ∗ owing c (duesSt c st ks ++ rest)
        ∗ ((stagePost m st c ∗ owing c rest) -∗ WP c (k (stFull m st c)) Q))
      ⊢ WP c (stProg dv st (stV m st c) k) Q := by
  unfold stProg stagePre some'
  iintro ⟨#HR, ⟨⟨%f, Hs⟩, Hin, Hat, Hrc⟩, HO, Hk⟩
  ihave Hs := (Entails.of_eq (slot_access c st f)) $$ Hs
  iapply (wp_load_rect 𝒱₀ (c : Thread nD τ) none Set.univ (m := commM st) (r := slotR 0) (q := fullShare) (f := f) (Finset.Subset.refl _)) $$ Hs
  iintro Hs
  iapply (wp_store 𝒱₀ (c : Thread nD τ) none Set.univ (m := commM st) (r := slotR 0) (Mk := Finset.univ)
    (S := ((commM st).access (slotR 0)).set) (f := f) (Finset.Subset.refl _)) $$ Hs
  iintro Hs
  ihave Hs := (Entails.of_eq ((slot_access c st _).symm.trans (store_slot m c st f))) $$ Hs
  ihave Hs := (own_shares c (slotM (commM st) 0).view (stRep m st c)).1 $$ Hs
  iapply (wp_chain c (recs m K) (fun k => stSend (dv k) st k) _ Q
    (fun k => iprop(own c (slotM (commM st) 0).view (shareK k) (stRep m st c) ∗ sendIn st c k))
    (fun k => cred (tallyAt (cell c (kSnd st k)) () (kamt (kSnd st k)))) (fun r => owing c (duesSt c st r ++ rest)) ks
    (fun k hk r p _ => wp_post m K c (dv k) st k (hdv k) (by revert hk; revert k; decide) (duesSt c st r ++ rest) p Q))
  isplitr; · iexact HR
  isplitl [Hs Hin]
  · iapply (sepL_sep ks _ _).2
    isplitl [Hs] <;> iassumption
  isplitl [HO]; · iexact HO
  iintro ⟨Hc, HO⟩
  iapply (wp_takes m K c (stRecv st) (fun k => kRcv st k) ks rest
    (fun k hk p Q => wp_take m K c (kRcv st k) (src := slotM (commM st) 0) (dst := slotM (commM st) k)
      (hsrc := slotM_word _ (commM_whole st) 0) (hdst := slotM_word _ (commM_whole st) k) rfl rfl (if_neg (by revert hk; revert k; decide)) rest hr p Q))
  isplitr; · iexact HR
  isplitl [Hrc]; · iexact Hrc
  isplitl [HO]; · iexact HO
  iintro ⟨Hrv, HO⟩
  iapply (wp_takes m K c (stDone st) (fun k => kSnd st k) ks rest
    (fun k hk p Q => wp_take m K c (kSnd st k) (src := slotM (commM st) k) (dst := slotM (commM st) 0)
      (hsrc := slotM_word _ (commM_whole st) k) (hdst := slotM_word _ (commM_whole st) 0) rfl rfl (if_neg (by revert hk; revert k; decide)) rest
      (fun x hx => lt_of_le_of_lt (Nat.zero_le _) (hr x hx)) p Q))
  isplitr; · iexact HR
  isplitl [Hc Hat]
  · iapply (sepL_sep ks _ _).2
    isplitl [Hc] <;> iassumption
  isplitl [HO]; · iexact HO
  iintro ⟨Hsd, HO⟩
  ihave Hrv := (sepL_sep ks _ _).1 $$ Hrv
  icases Hrv with ⟨Hzr, Hrv⟩
  have hrv : (bigSepL ks fun k => kpay m c (kRcv st k) (0, 0))
      ⊢ iprop(bigSepL ks (fun k => own c (slotM (commM st) k).view fullShare (stRep m st c)) ∗ bigSepL ks fun k => ext st k c) :=
    (sepL_sep ks _ _).1
  have hsd : (bigSepL ks fun k => kpay m c (kSnd st k) (0, 0)) ⊢ own c (slotM (commM st) 0).view fullShare (stRep m st c) :=
    (own_shares c (slotM (commM st) 0).view (stRep m st c)).2
  ihave Hrv := hrv $$ Hrv
  icases Hrv with ⟨Hrv, He⟩
  ihave Hsd := (sepL_sep ks _ _).1 $$ Hsd
  icases Hsd with ⟨Hzs, Hsd⟩
  ihave Hsd := hsd $$ Hsd
  have hfull : (iprop(own c (slotM (commM st) 0).view fullShare (stRep m st c) ∗ bigSepL ks fun k => own c (slotM (commM st) k).view fullShare (stRep m st c)) : sProp 𝕄)
      = own c (commM st).view fullShare (stRep m st c) := by rw [slots_eq, sep4]
  ihave Hf := (Entails.of_eq hfull) $$ [Hsd Hrv]
  · isplitl [Hsd] <;> iassumption
  unfold own
  iapply (wp_load 𝒱₀ (c : Thread nD τ) none Set.univ (m := commM st) (r := allR.toLoadRect) (View.setOn_subset_set _ _)) $$ Hf
  iintro Hf
  rw [show (commM st).view.readAt (Elt F) allR.toLoadRect (stRep m st c) = stFull m st c from
    View.readAt_rep_full (commM st).view (stFull m st c) _]
  iapply Hk
  isplitr [HO]
  · unfold stagePost own
    isplitl [Hf]; · iexact Hf
    isplitl [He]; · iexact He
    isplitl [Hzs] <;> iassumption
  iexact HO

end Cert.Talk

end
-- ==== Proof.Last.lean ====
/-
# The last exchange

Every device puts its own rows of the product in its slot 0, sends the others theirs, waits for what the fifteen
others send it, and stores the sum of the sixteen (`wp_last`).
-/
module

public import proofs.«01_k».proof.Proof.Stage
public import Idealize.ShloMosaic.Lib.Pipeline.Value

@[expose] public section

set_option maxRecDepth 8192

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The landing buffer's slot 0, as a load or a store of the buffer there sees it. -/
theorem slot2_access (c : Dev nD) (f : (c2M : Memref sig .tc .vmem S16x8x128 .f32).view.ty.Contents (Elt F)) :
    (own c (slot2M 0).view fullShare f : sProp 𝕄)
      = (View.loc (c : Thread nD τ) (c2M.access (slot2R 0)) ↦[(c2M.access (slot2R 0)).set]{fullShare} f) := by
  have hs : (slot2M 0).view.set = (c2M.access (slot2R 0)).set := View.set_reshape _ _
  unfold own; rw [hs]; rfl

/-- What owning a buffer under a view means. -/
theorem own_open {sp : Space} {s : Shape} {e : EltTy} (c : Dev nD) (v : View sig .tc sp s e) (q : PosShare TreeShare) (f : v.ty.Contents (Elt F)) :
    (own c v q f : sProp 𝕄) ⊢ (View.loc (c : Thread nD τ) v ↦[v.set]{q} f) := .rfl

/-- The whole product, as a rectangle. -/
abbrev fullR : Rect S128x128 := Rect.unit (s := S128x128) ![0, 0] S128x128.size inb_S128x128_S128x128_0_0

/-- The eight rows of the product that stay on device `d`, as a rectangle. -/
abbrev ownR (d : Dev nD) : Rect S128x128 := Rect.unit (s := S128x128) (k0_off1 d) S8x128.size (k0_off1_inb d)

/-- A buffer after a store of its whole holds what was stored. -/
theorem store_full {sp : Space} {s : Shape} {e : EltTy} (c : Dev nD) (mm : Memref sig .tc sp s e) {off : Fin s.rank → ℕ}
    (inb : ∀ a, off a + s.size a ≤ s.size a) (f : mm.view.ty.Contents (Elt F)) (X : s.Idx → Elt F e) :
    (View.loc (c : Thread nD τ) (mm.access (Rect.unit off s.size inb))
        ↦[mm.view.set]{fullShare} ((mm.access (Rect.unit off s.size inb)).write (Elt F) f X Finset.univ) : sProp 𝕄)
      = own c mm.view fullShare (mm.view.rep X) := by
  refine own_congr c mm.view fullShare fun i hi => ?_
  have h : ∀ j, mm.view.read (Elt F) (mm.view.rep X) j = mm.view.read (Elt F) (mm.view.writes (Elt F) f [⟨Rect.unit off s.size inb, X⟩]) j := fun j =>
    (congrFun (View.read_rep mm.view X) j).trans (congrFun (View.read_writes_full mm.view f inb X []) j).symm
  obtain ⟨j, -, rfl⟩ := Finset.mem_map.mp hi
  have hj := h j
  rw [View.read_apply, View.read_apply] at hj
  exact ((cast_bijective _).1 hj).symm

/-- An element of the rows that stay, as an element of the product. -/
theorem ownR_emb (c : Dev nD) (j : S8x128.Idx) : (ownR c).emb j = (blkR c).emb j := by
  funext a
  refine Fin.ext ?_
  have h := congrFun (off1_eq c) a
  rw [rot_zero] at h
  exact congrArg (· + 1 * (j a).val) h

/-- The rows that stay, loaded. -/
theorem load_rows (c : Dev nD) (X : FVec F S128x128 .f32) (j : S8x128.Idx) :
    p2M.view.readAt (Elt F) (ownR c).toLoadRect (p2M.view.rep X) j = X ((blkR c).emb j) := by
  refine (read_slice_rep (Val := Elt F) p2M.view (ownR c) X j).trans ?_
  rw [ownR_emb]

/-- Slot 0 of what the last exchange leaves is what the device put there. -/
theorem landed_zero (c : Dev nD) (w : Vec F S8x128 .f32) (hw : ∀ j, w j = prod m c ((blkR c).emb j)) (y : S1x8x128.Idx) :
    landed m c ((slot2R 0).emb y) = k0_pay9 w y := by
  have hy : y = Fin.cons ⟨0, Nat.one_pos⟩ (fun a : Fin 2 => y a.succ) := by
    funext a
    refine Fin.cases ?_ (fun b => ?_) a
    · exact Subsingleton.elim (α := Fin 1) _ _
    · rfl
  have h := landed_slot m 0 c (fun a : Fin 2 => y a.succ)
  rw [← hy, rot_neg_zero] at h
  refine h.trans ((hw _).symm.trans ?_)
  exact (shapeCast_addUnit_apply ![8, 128] w _ y).symm

/-- Slot 0 of the landing buffer after the store. -/
theorem store_zero (c : Dev nD) (f : (c2M : Memref sig .tc .vmem S16x8x128 .f32).view.ty.Contents (Elt F)) (w : Vec F S8x128 .f32)
    (hw : ∀ j, w j = prod m c ((blkR c).emb j)) :
    (own c (slot2M 0).view fullShare ((c2M.access (slot2R 0)).write (Elt F) f (k0_pay9 w) Finset.univ) : sProp 𝕄)
      = own c (slot2M 0).view fullShare (landRep m c) := by
  refine own_congr c (slot2M 0).view fullShare ?_
  have hs : (slot2M 0).view.set = (c2M.access (slot2R 0)).set := View.set_reshape _ _
  rw [hs]
  refine write_eq_on (c2M.access (slot2R 0)) f (landRep m c) (k0_pay9 w) fun j => ?_
  refine (read_slice_rep (Val := Elt F) c2M.view (slot2R 0) (landed m c) j).trans ?_
  exact landed_zero m c w hw j

variable (K : Dev nD × Key → ℕ)

/-- What the last exchange starts from on device `c`; `mo` is the result's buffer. -/
def lastPre (c : Dev nD) (mo : Memref sig .tc .vmem S8x128 .f32) : sProp 𝕄 :=
  iprop(some' c p2M.view ∗ some' c (slot2M 0).view ∗ some' c mo.view
    ∗ bigSepL ks2 (fun k => iprop(some' (rot k c) (slot2M k).view
        ∗ dutyTok ER (cell c (kSnd2 k)) 0 (0, 0) ∗ dutyTok ER (cell (rot k c) (kRcv2 k)) 0 (0, 0)))
    ∗ bigSepL ks2 (fun k => atPos ER (cell c (kSnd2 k)) 0 ∅ 0)
    ∗ bigSepL ks2 (fun k => iprop(cred (tallyAt (cell c (kRcv2 k)) () (kamt (kRcv2 k))) ∗ atPos ER (cell c (kRcv2 k)) 0 ∅ 0)))

/-- What it leaves. -/
def lastPost (c : Dev nD) (mo : Memref sig .tc .vmem S8x128 .f32) : sProp 𝕄 :=
  iprop(own c p2M.view fullShare (prodRep m c) ∗ own c c2M.view fullShare (landRep m c)
    ∗ (∃ g, ⌜mo.view.read (Elt F) g = outAt m c⌝ ∗ own c mo.view fullShare g)
    ∗ bigSepL ks2 (fun k => semVal (cell c (kSnd2 k)) 0) ∗ bigSepL ks2 (fun k => semVal (cell c (kRcv2 k)) 0))

/-- The last exchange: the result's buffer gets the device's rows of the sum of the sixteen products. -/
theorem wp_last (c : Dev nD) (dv : Fin 16 → Dev nD) (hdv : ∀ k, dv k = rot k c) (mo : Memref sig .tc .vmem S8x128 .f32)
    (v : FVec F S128x128 .f32) (hv : k0_pay8 v = prod m c) (Q : PUnit → sProp 𝕄) :
    iprop(recs m K ∗ lastPre c mo ∗ owing c (dues2 c ks2) ∗ ((lastPost m c mo ∗ owing c []) -∗ Q ⟨⟩))
      ⊢ WP c (r2Prog c dv mo v) Q := by
  have hopen : ∀ {sp : Space} {s : Shape} {e : EltTy} (w : View sig .tc sp s e), (some' c w : sProp 𝕄) ⊢ iprop(∃ f, own c w fullShare f) :=
    fun _ => .rfl
  unfold r2Prog lastPre
  rw [hv]
  iintro ⟨#HR, ⟨Hp, Hs, Ho, Hin, Hat, Hrc⟩, HO, Hk⟩
  ihave Hp := (hopen p2M.view) $$ Hp
  icases Hp with ⟨%f, Hp⟩
  ihave Hp := (own_open c p2M.view fullShare f) $$ Hp
  ihave Hs := (hopen (slot2M 0).view) $$ Hs
  icases Hs with ⟨%g, Hs⟩
  ihave Hs := (Entails.of_eq (slot2_access c g)) $$ Hs
  ihave Ho := (hopen mo.view) $$ Ho
  icases Ho with ⟨%o, Ho⟩
  ihave Ho := (own_open c mo.view fullShare o) $$ Ho
  iapply (wp_load 𝒱₀ (c : Thread nD τ) none Set.univ (m := p2M) (r := fullR.toLoadRect) (View.setOn_subset_set _ _)) $$ Hp
  iintro Hp
  iapply (wp_store 𝒱₀ (c : Thread nD τ) none Set.univ (m := p2M) (r := fullR) (Mk := Finset.univ)
    (S := p2M.view.set) (f := f) (View.set_slice_subset p2M.view fullR)) $$ Hp
  iintro Hp
  ihave Hp := (Entails.of_eq (store_full c p2M inb_S128x128_S128x128_0_0 f (prod m c))) $$ Hp
  ihave Hp := (own_open c p2M.view fullShare (p2M.view.rep (prod m c))) $$ Hp
  iapply (wp_load 𝒱₀ (c : Thread nD τ) none Set.univ (m := p2M) (r := (ownR c).toLoadRect) (View.setOn_subset_set _ _)) $$ Hp
  iintro Hp
  iapply (wp_load_rect 𝒱₀ (c : Thread nD τ) none Set.univ (m := c2M) (r := slot2R 0) (q := fullShare) (f := g) (Finset.Subset.refl _)) $$ Hs
  iintro Hs
  iapply (wp_store 𝒱₀ (c : Thread nD τ) none Set.univ (m := c2M) (r := slot2R 0) (Mk := Finset.univ)
    (S := (c2M.access (slot2R 0)).set) (f := g) (Finset.Subset.refl _)) $$ Hs
  iintro Hs
  ihave Hs := (Entails.of_eq ((slot2_access c _).symm.trans (store_zero m c g _ (load_rows c (prod m c))))) $$ Hs
  have hrows : (own c p2M.view fullShare (p2M.view.rep (prod m c)) : sProp 𝕄)
      = iprop(own c (rowM c 0).view fullShare (prodRep m c) ∗ bigSepL ks2 fun k => own c (rowM c k).view fullShare (prodRep m c)) := by
    rw [← sep16 (fun k => own c (rowM c k).view fullShare (prodRep m c)), ← rows_eq]; rfl
  have hcut : (View.loc (c : Thread nD τ) p2M.view ↦[p2M.view.set]{fullShare} (p2M.view.rep (prod m c)) : sProp 𝕄)
      ⊢ iprop(own c (rowM c 0).view fullShare (prodRep m c) ∗ bigSepL ks2 fun k => own c (rowM c k).view fullShare (prodRep m c)) :=
    Entails.of_eq hrows
  ihave Hp := hcut $$ Hp
  icases Hp with ⟨Hp0, Hp⟩
  iapply (wp_chain c (recs m K) (fun k => r2Send c (dv k) k) _ Q
    (fun k => iprop(own c (rowM c k).view fullShare (prodRep m c) ∗ some' (rot k c) (slot2M k).view
        ∗ dutyTok ER (cell c (kSnd2 k)) 0 (0, 0) ∗ dutyTok ER (cell (rot k c) (kRcv2 k)) 0 (0, 0)))
    (fun k => cred (tallyAt (cell c (kSnd2 k)) () (kamt (kSnd2 k)))) (fun r => owing c (dues2 c r)) ks2
    (fun k hk r p _ => wp_post2 m K c (dv k) k (hdv k) (by revert hk; revert k; decide) (dues2 c r) p Q))
  isplitr; · iexact HR
  isplitl [Hp Hin]
  · iapply (sepL_sep ks2 _ _).2
    isplitl [Hp] <;> iassumption
  isplitl [HO]; · iexact HO
  iintro ⟨Hc, HO⟩
  iapply (wp_takes m K c (r2Recv c) (fun k => kRcv2 k) ks2 []
    (fun k hk p Q => wp_take m K c (kRcv2 k) (src := rowM c k) (dst := slot2M k)
      (hsrc := View.wordExact_bits rfl) (hdst := (View.wordExact_bits rfl).reshape _ _) rfl rfl (if_neg (by revert hk; revert k; decide)) []
      (fun x hx => absurd hx List.not_mem_nil) p Q))
  isplitr; · iexact HR
  isplitl [Hrc]; · iexact Hrc
  isplitl [HO]; · iexact HO
  iintro ⟨Hrv, HO⟩
  iapply (wp_takes m K c (r2Done c) (fun k => kSnd2 k) ks2 []
    (fun k hk p Q => wp_take m K c (kSnd2 k) (src := slot2M k) (dst := rowM c k)
      (hsrc := (View.wordExact_bits rfl).reshape _ _) (hdst := View.wordExact_bits rfl) rfl rfl (if_neg (by revert hk; revert k; decide)) []
      (fun x hx => absurd hx List.not_mem_nil) p Q))
  isplitr; · iexact HR
  isplitl [Hc Hat]
  · iapply (sepL_sep ks2 _ _).2
    isplitl [Hc] <;> iassumption
  isplitl [HO]; · iexact HO
  iintro ⟨Hsd, HO⟩
  ihave Hrv := (sepL_sep ks2 _ _).1 $$ Hrv
  icases Hrv with ⟨Hzr, Hrv⟩
  ihave Hsd := (sepL_sep ks2 _ _).1 $$ Hsd
  icases Hsd with ⟨Hzs, Hsd⟩
  have hp2 : (iprop(own c (rowM c 0).view fullShare (prodRep m c) ∗ bigSepL ks2 fun k => kpay m c (kSnd2 k) (0, 0)) : sProp 𝕄)
      ⊢ own c p2M.view fullShare (prodRep m c) := Entails.of_eq hrows.symm
  have hc2 : (iprop(own c (slot2M 0).view fullShare (landRep m c) ∗ bigSepL ks2 fun k => kpay m c (kRcv2 k) (0, 0)) : sProp 𝕄)
      ⊢ own c c2M.view fullShare (landRep m c) := Entails.of_eq (by
    rw [slots2_eq, sep16]; rfl)
  ihave Hp := hp2 $$ [Hp0 Hsd]
  · isplitl [Hp0] <;> iassumption
  ihave Hl := hc2 $$ [Hs Hrv]
  · isplitl [Hs] <;> iassumption
  ihave Hl := (own_open c c2M.view fullShare (landRep m c)) $$ Hl
  iapply (wp_load 𝒱₀ (c : Thread nD τ) none Set.univ (m := c2M)
    (r := (Rect.unit (s := S16x8x128) ![0, 0, 0] S16x8x128.size inb_S16x8x128_S16x8x128_0_0_0).toLoadRect) (View.setOn_subset_set _ _)) $$ Hl
  iintro Hl
  rw [show c2M.view.readAt (Elt F) (Rect.unit (s := S16x8x128) ![0, 0, 0] S16x8x128.size inb_S16x8x128_S16x8x128_0_0_0).toLoadRect (landRep m c) = landed m c from
    View.readAt_rep_full c2M.view (landed m c) _]
  iapply (wp_load 𝒱₀ (c : Thread nD τ) none Set.univ (m := mo)
    (r := (Rect.unit (s := S8x128) ![0, 0] S8x128.size inb_S8x128_S8x128_0_0).toLoadRect) (View.setOn_subset_set _ _)) $$ Ho
  iintro Ho
  iapply (wp_store 𝒱₀ (c : Thread nD τ) none Set.univ (m := mo)
    (r := Rect.unit (s := S8x128) ![0, 0] S8x128.size inb_S8x128_S8x128_0_0) (Mk := Finset.univ) (S := mo.view.set) (f := o)
    (View.set_slice_subset mo.view _)) $$ Ho
  iintro Ho
  rw [wp_ret]; imodintro
  iapply Hk
  isplitr [HO]
  · unfold lastPost own
    isplitl [Hp]; · iexact Hp
    isplitl [Hl]; · iexact Hl
    isplitl [Ho]
    · iexists _
      isplitr
      · ipureintro
        exact View.read_writes_full mo.view o inb_S8x128_S8x128_0_0 (k0_pay1 (landed m c)) []
      iexact Ho
    isplitl [Hzs] <;> iassumption
  iexact HO

end Cert.Talk

end
-- ==== Proof.Body.lean ====
/-
# The kernel body on one device

From its buffers, its tickets and its credits (`bodyPre`), device `c` runs the body and ends with its argument arrays as
they were, its scratch buffers back, every semaphore at zero, and the result's buffer holding its rows of the result
(`bodyPost`, `wp_body`).
-/
module

public import proofs.«01_k».proof.Proof.Last

@[expose] public section

set_option maxRecDepth 8192

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The last exchange's slots on their way -/

/-- A double family over two quadruples, re-indexed. -/
theorem sep_pairs {M : Type} [URA M] {A B : Type} [Fintype A] [Fintype B] (e : A × B ≃ Fin 4 × Fin 4) (Φ : Fin 4 → Fin 4 → sProp M) :
    (bigSep Finset.univ fun i => bigSep Finset.univ fun j => Φ i j)
      = bigSep Finset.univ fun a => bigSep Finset.univ fun b => Φ (e (a, b)).1 (e (a, b)).2 := by
  rw [← bigSep_univ_prod (fun p : Fin 4 × Fin 4 => Φ p.1 p.2), bigSep_univ_equiv e, bigSep_univ_prod]

/-- Row, then column: every device once. -/
def gridE (c : Dev nD) : Fin 4 × Fin 4 ≃ Dev nD :=
  Equiv.ofBijective (fun p => peer 1 p.2 (peer 0 p.1 c)) ((by decide +kernel :
    ∀ c : Dev nD, Function.Bijective fun p : Fin 4 × Fin 4 => peer 1 p.2 (peer 0 p.1 c)) c)

/-- Column back, then row: every device once. -/
def gridE' (c : Dev nD) : Fin 4 × Fin 4 ≃ Dev nD :=
  Equiv.ofBijective (fun p => peer 0 p.2 (peer 1 (-p.1) c)) ((by decide +kernel :
    ∀ c : Dev nD, Function.Bijective fun p : Fin 4 × Fin 4 => peer 0 p.2 (peer 1 (-p.1) c)) c)

/-- All of a device's slots are what it hands on in the first exchange, itself included. -/
theorem slots_out0 (c : Dev nD) :
    (bigSep Finset.univ fun u : Dev nD => slotOf (F := F) c u) = bigSep Finset.univ fun k : Fin 4 => ext 0 k (peer 0 k c) := by
  rw [bigSep_univ_equiv (gridE c), bigSep_univ_prod]
  refine bigSep_congr fun k _ => ?_
  show _ = bigSep Finset.univ fun j : Fin 4 => slotOf (peer 0 (-k) (peer 0 k c)) (peer 1 j (peer 0 k c))
  rw [neg_peer]; rfl

/-- What the first exchange brings is what the second hands on. -/
theorem slots_out1 (c : Dev nD) :
    (bigSep Finset.univ fun k : Fin 4 => ext (F := F) 0 k c) = bigSep Finset.univ fun k : Fin 4 => ext 1 k (peer 1 k c) := by
  show (bigSep Finset.univ fun k : Fin 4 => bigSep Finset.univ fun j : Fin 4 => slotOf (peer 0 (-k) c) (peer 1 j c)) = _
  rw [sep_pairs ((Equiv.prodComm (Fin 4) (Fin 4)).trans ((⟨fun k => -k, fun k => -k, by decide, by decide⟩ : Fin 4 ≃ Fin 4).prodCongr (Equiv.refl _)))]
  refine bigSep_congr fun k _ => ?_
  show _ = bigSep Finset.univ fun j : Fin 4 => slotOf (peer 0 j (peer 1 (-k) (peer 1 k c))) (peer 1 k c)
  rw [neg_peer]
  refine bigSep_congr fun j _ => ?_
  show slotOf (peer 0 (- -j) c) (peer 1 k c) = _
  rw [(by decide : ∀ j : Fin 4, - -j = j) j]

/-- How far on a device is that lies `k` steps on. -/
theorem rot_sub : ∀ (c : Dev nD) (k : Fin 16), rot k c - c = k := by decide +kernel

/-- What the second exchange brings is the slots the device writes in the last one. -/
theorem slots_out2 (c : Dev nD) :
    (bigSep Finset.univ fun k : Fin 4 => ext (F := F) 1 k c) = bigSep Finset.univ fun k : Fin 16 => some' (rot k c) (slot2M k).view := by
  show (bigSep Finset.univ fun k : Fin 4 => bigSep Finset.univ fun j : Fin 4 => slotOf (peer 0 j (peer 1 (-k) c)) c) = _
  have h1 : (bigSep Finset.univ fun k : Fin 4 => bigSep Finset.univ fun j : Fin 4 => slotOf (F := F) (peer 0 j (peer 1 (-k) c)) c)
      = bigSep Finset.univ fun t : Dev nD => slotOf t c := by
    rw [bigSep_univ_equiv (gridE' c) (fun t => slotOf t c), bigSep_univ_prod]; rfl
  rw [h1, bigSep_univ_equiv (rotE c)]
  refine bigSep_congr fun k _ => ?_
  show slotOf (rot k c) c = _
  unfold slotOf
  rw [rot_sub]

/-- The slots of a device, by who writes them. -/
def backE (c : Dev nD) : Dev nD ≃ Fin 16 :=
  Equiv.ofBijective (fun u => c - u) ((by decide +kernel : ∀ c : Dev nD, Function.Bijective fun u : Dev nD => (c - u : Fin 16)) c)

/-- The landing buffer, cut into its slots. -/
theorem slots_own (c : Dev nD) : (some' c c2M.view : sProp 𝕄) ⊢ bigSep Finset.univ fun u : Dev nD => slotOf c u := by
  have hu : ∀ (f : (c2M : Memref sig .tc .vmem S16x8x128 .f32).view.ty.Contents (Elt F)) (u : Dev nD),
      own c (slot2M (c - u)).view fullShare f ⊢ slotOf c u := fun f u => by
    unfold slotOf some'; iintro H; iexists f; iexact H
  have h : ∀ f : (c2M : Memref sig .tc .vmem S16x8x128 .f32).view.ty.Contents (Elt F),
      own c c2M.view fullShare f ⊢ bigSep Finset.univ fun u : Dev nD => slotOf c u := fun f => by
    rw [slots2_eq, bigSep_univ_equiv (backE c)]
    exact bigSep_mono fun u _ => hu f u
  unfold some'
  iintro ⟨%f, H⟩
  iapply (h f); iexact H

/-! ## What is owed stays at higher levels -/

/-- What is owed for exchange `st` is owed at its level. -/
theorem lev_st (c : Dev nD) (st : Fin 4) (l : List (Fin 4)) (x : Dev nD × Key) (h : x ∈ duesSt c st l) : klev x.2 = 2 + st.val := by
  obtain ⟨k, -, rfl⟩ := List.mem_map.mp h; rfl

/-- What is owed for the last exchange is owed at level 6. -/
theorem lev_2 (c : Dev nD) (l : List (Fin 16)) (x : Dev nD × Key) (h : x ∈ dues2 c l) : klev x.2 = 6 := by
  obtain ⟨k, -, rfl⟩ := List.mem_map.mp h; rfl

/-- Duties of one exchange before duties of higher levels: all are at that exchange's level at least. -/
theorem lev_app (c : Dev nD) (st : Fin 4) (l : List (Dev nD × Key)) (h : ∀ x ∈ l, 2 + st.val < klev x.2) (x : Dev nD × Key)
    (hx : x ∈ duesSt c st ks ++ l) : 2 + st.val ≤ klev x.2 := by
  rcases List.mem_append.mp hx with hx | hx
  · exact (lev_st c st ks x hx).ge
  · exact (h x hx).le

/-- All owed from exchange `n` on is at level `2 + n` at least. -/
theorem lev_from (c : Dev nD) : (∀ x ∈ duesFrom c 4, 5 < klev x.2) ∧ (∀ x ∈ duesFrom c 3, 4 < klev x.2)
    ∧ (∀ x ∈ duesFrom c 2, 3 < klev x.2) ∧ (∀ x ∈ duesFrom c 1, 2 < klev x.2) ∧ ∀ x ∈ duesFrom c 0, 1 < klev x.2 := by
  have h4 : ∀ x ∈ duesFrom c 4, 5 < klev x.2 := fun x h => (by decide : 5 < 6).trans_eq (lev_2 c ks2 x h).symm
  have h3 := lev_app c 3 _ h4
  have h2 := lev_app c 2 _ h3
  have h1 := lev_app c 1 _ h2
  exact ⟨h4, h3, h2, h1, lev_app c 0 _ h1⟩

variable (K : Dev nD × Key → ℕ)

/-- A semaphore of no duty is closed at zero. -/
theorem close_unused (c : Dev nD) (κ : Key) (h : kdut κ = ∅) :
    iprop(recs m K ∗ atPos ER (cell c κ) 0 ∅ 0) ⊢ iprop(|={Set.univ}=> semVal (cell c κ) 0) := by
  iintro ⟨#HR, Hat⟩
  iapply (Rounds.cell_close ER (sched m) (Set.mem_univ (K (c, κ))) (fun h => h) (R := 0) (fun r _ => by
    rcases Nat.eq_zero_or_pos r with rfl | hr
    · rw [duties_cell]; exact h
    · exact duties_later m _ r hr))
  isplitr; · iapply (recs_inv m K c κ); iexact HR
  iexact Hat

/-- The wait for the six barrier signals: the partners' slots, and the barrier back at zero. -/
theorem wp_barrier {α : Type} (c : Dev nD) (l : List (Dev nD × Key)) (hl : ∀ x ∈ l, 1 < klev x.2)
    (p : Prog (OpT F) α) (Q : α → sProp 𝕄) :
    iprop(recs m K ∗ (cred (tallyAt (cell c kBar) () 6) ∗ atPos ER (cell c kBar) 0 ∅ 0) ∗ owing c l
        ∗ (((semVal (cell c kBar) 0 ∗ bigSepL sigL (barPay c)) ∗ owing c l) -∗ WP c p Q))
      ⊢ WP c (.op (.semWait barSem (6#32 : BitVec 32).toInt) fun _ => p) Q := by
  have hmw : recs m K ⊢ MayWait (c : Thread nD τ) (.reg barSem) () (tl l) :=
    BI.Entails.trans (recs_lev m K) (mayWait_of (F := F) c (ksem kBar) 1 (lv_cell c kBar) l hl)
  have hexp : 0 + (6#32 : BitVec 32).toInt.toNat = (sched m).expect ((c : Thread nD τ), .reg barSem) 0 := by
    rw [show ((c : Thread nD τ), SemLoc.reg barSem) = cell c kBar from rfl, expect_cell m c kBar]; rfl
  have hpay : bigSep ((sched m).duties ((c : Thread nD τ), .reg barSem) 0 \ ∅) (fun d => (sched m).payload ((c : Thread nD τ), .reg barSem) 0 d)
      = bigSepL sigL (barPay c) := by
    rw [show ((c : Thread nD τ), SemLoc.reg barSem) = cell c kBar from rfl, Finset.sdiff_empty, duties_cell m c kBar,
      bigSep_congr fun d _ => payload_cell m c kBar 0 d]
    exact bigSep_eq_bigSepL_of_eq sigL (by decide) (by decide) _
  have hinv := recs_inv m K c kBar
  unfold owing
  iintro ⟨#HR, ⟨Hc, Hat⟩, ⟨%W, HO⟩, Hk⟩
  iapply (Rounds.wp_wait_rest_token 𝒱₀ ER (sched m) (c : Thread nD τ) none (κ := K (c, kBar))
      (wpE_semWait_eq 𝒱₀ (c : Thread nD τ) none Set.univ) (Set.mem_univ _) () (O := tl l) (W := W) (R := 0) (m := 0) (T := ∅) hexp) $$ [Hc HO Hat]
  · isplitr; · iapply hinv; iexact HR
    isplitl [Hc]; · iexact Hc
    isplitl [HO]; · iexact HO
    isplitr; · iapply hmw; iexact HR
    iexact Hat
  iintro ⟨HO, Hat, -, Hp⟩
  ihave Hp' := (Entails.of_eq hpay) $$ Hp
  imod (Rounds.cell_close ER (sched m) (Set.mem_univ (K (c, kBar))) (fun h => h) (R := 0 + 1) (duties_later m _)) $$ [Hat] with Hz
  · isplitr; · iapply hinv; iexact HR
    iexact Hat
  iapply Hk
  isplitl [Hz Hp']
  · isplitl [Hz] <;> iassumption
  iexists _; iexact HO

/-! ## The semaphores, listed -/

/-- An argument copy's semaphore, among the kernel's own. -/
abbrev okIn (i : Fin 7) : OKey := .inl i
/-- A four-way exchange's send semaphore, among the kernel's own. -/
abbrev okSnd (st k : Fin 4) : OKey := .inr (.inl (st, k))
/-- A four-way exchange's receive semaphore, among the kernel's own. -/
abbrev okRcv (st k : Fin 4) : OKey := .inr (.inr (.inl (st, k)))
/-- A send semaphore of the last exchange, among the kernel's own. -/
abbrev okSnd2 (k : Fin 16) : OKey := .inr (.inr (.inr (.inl k)))
/-- A receive semaphore of the last exchange, among the kernel's own. -/
abbrev okRcv2 (k : Fin 16) : OKey := .inr (.inr (.inr (.inr k)))

/-- The arguments, as the body waits for them. -/
def insL : List (Fin 7) := [0, 1, 2] ++ ([3, 4] ++ [5, 6])

/-- The semaphores no copy signals. -/
def idleL : List OKey := [okSnd 0 0, okRcv 0 0, okSnd 1 0, okRcv 1 0, okSnd 2 0, okRcv 2 0, okSnd 3 0, okRcv 3 0, okSnd2 0, okRcv2 0]

/-- The semaphores of one exchange. -/
def stL (st : Fin 4) : List OKey := ks.map (okSnd st) ++ ks.map (okRcv st)

/-- The launch's own semaphores. -/
def okeys : List OKey := insL.map okIn ++ (stL 0 ++ (stL 1 ++ (stL 2 ++ (stL 3 ++ ((ks2.map okSnd2 ++ ks2.map okRcv2) ++ idleL)))))

/-- Something per semaphore of the kernel's own, as a list. -/
theorem sep_okeys {M : Type} [URA M] (Φ : OKey → sProp M) : bigSep Finset.univ Φ = bigSepL okeys Φ :=
  bigSep_univ_eq_bigSepL okeys (by decide +kernel) (by decide +kernel) Φ

/-- What is held per semaphore, by where the body uses it. -/
theorem okeys_split {M : Type} [URA M] (Φ : OKey → sProp M) :
    bigSepL okeys Φ ⊣⊢ iprop(bigSepL insL (fun i => Φ (okIn i))
      ∗ ((bigSepL ks (fun k => Φ (okSnd 0 k)) ∗ bigSepL ks (fun k => Φ (okRcv 0 k)))
      ∗ ((bigSepL ks (fun k => Φ (okSnd 1 k)) ∗ bigSepL ks (fun k => Φ (okRcv 1 k)))
      ∗ ((bigSepL ks (fun k => Φ (okSnd 2 k)) ∗ bigSepL ks (fun k => Φ (okRcv 2 k)))
      ∗ ((bigSepL ks (fun k => Φ (okSnd 3 k)) ∗ bigSepL ks (fun k => Φ (okRcv 3 k)))
      ∗ ((bigSepL ks2 (fun k => Φ (okSnd2 k)) ∗ bigSepL ks2 (fun k => Φ (okRcv2 k))) ∗ bigSepL idleL Φ)))))) := by
  unfold okeys stL
  simp only [bigSepL_append, bigSepL_map]
  exact ⟨.rfl, .rfl⟩

/-- The idle semaphores are closed at zero. -/
theorem close_list (c : Dev nD) (l : List OKey) (h : ∀ o ∈ l, kdut (.inr o) = ∅) :
    iprop(recs m K ∗ bigSepL l (fun o => atPos ER (cell c (.inr o)) 0 ∅ 0))
      ⊢ iprop(|={Set.univ}=> bigSepL l (fun o => semVal (cell c (.inr o)) 0)) := by
  induction l with
  | nil =>
    rw [bigSepL_nil, bigSepL_nil]
    iintro ⟨-, H⟩; imodintro; iexact H
  | cons o r ih =>
    rw [bigSepL_cons', bigSepL_cons']
    iintro ⟨#HR, Ho, Hr⟩
    imod (close_unused m K c (.inr o) (h o List.mem_cons_self)) $$ [Ho] with Hz
    · isplitr; · iexact HR
      iexact Ho
    imod (ih fun o' ho' => h o' (List.mem_cons_of_mem _ ho')) $$ [Hr] with Hzs
    · isplitr; · iexact HR
      iexact Hr
    imodintro
    isplitl [Hz] <;> iassumption

/-- No step along an axis leaves the device. -/
theorem peer_none : ∀ (ax : Fin 4) (c : Dev nD), peer ax 0 c = c := by decide +kernel

/-! ## The body -/

/-- What exchange `st` starts from but for the partners' slots. -/
def stRes (st : Fin 4) (c : Dev nD) : sProp 𝕄 :=
  iprop(some' c (slotM (commM st) 0).view
    ∗ bigSepL ks (fun k => iprop(dutyTok ER (cell c (kSnd st k)) 0 (0, 0) ∗ dutyTok ER (cell (peer st k c) (kRcv st k)) 0 (0, 0)))
    ∗ bigSepL ks (fun k => cred (tallyAt (cell c (kRcv st k)) () (kamt (kRcv st k)))))

/-- What exchange `st` starts from, put together from where the body has it. -/
theorem stage_pre (st : Fin 4) (c : Dev nD) :
    iprop(stRes (F := F) st c ∗ (bigSepL ks (fun k => atPos ER (cell c (kSnd st k)) 0 ∅ 0) ∗ bigSepL ks (fun k => atPos ER (cell c (kRcv st k)) 0 ∅ 0))
      ∗ bigSepL ks (fun k => some' (peer st k c) (slotM (commM st) k).view) ∗ bigSepL ks (fun k => ext st k (peer st k c)))
      ⊢ stagePre st c := by
  unfold stRes stagePre
  iintro ⟨⟨Hs, Ht, Hc⟩, ⟨Ha, Hb⟩, Hd, He⟩
  isplitl [Hs]; · iexact Hs
  isplitl [Ht Hd He]
  · unfold sendIn
    iapply (sepL_sep ks _ _).2
    isplitl [Hd]; · iexact Hd
    iapply (sepL_sep ks _ _).2
    isplitl [He]; · iexact He
    iexact Ht
  isplitl [Ha]; · iexact Ha
  iapply (sepL_sep ks _ _).2
  isplitl [Hc] <;> iassumption

/-- What exchange `st` ends with, taken apart for what follows. -/
theorem stage_post (st : Fin 4) (c : Dev nD) :
    stagePost m st c ⊢ iprop(own c (commM st).view fullShare (stRep m st c) ∗ bigSepL ks (fun k => ext st k c)
      ∗ (bigSepL ks (fun k => semVal (cell c (kSnd st k)) 0) ∗ bigSepL ks (fun k => semVal (cell c (kRcv st k)) 0))) := .rfl

/-- What the last exchange ends with, taken apart. -/
theorem last_post (c : Dev nD) (mo : Memref sig .tc .vmem S8x128 .f32) :
    lastPost m c mo ⊢ iprop(own c p2M.view fullShare (prodRep m c) ∗ own c c2M.view fullShare (landRep m c)
      ∗ (∃ g, ⌜mo.view.read (Elt F) g = outAt m c⌝ ∗ own c mo.view fullShare g)
      ∗ (bigSepL ks2 (fun k => semVal (cell c (kSnd2 k)) 0) ∗ bigSepL ks2 (fun k => semVal (cell c (kRcv2 k)) 0))) := .rfl

/-- The second layer's exchanges hand on no slots. -/
theorem ext_none (st : Fin 4) (h : 2 ≤ st.val) (dv : Fin 4 → Dev nD) : iprop(emp) ⊢ bigSepL ks (fun k => ext (F := F) st k (dv k)) := by
  have he : ∀ k e, ext (F := F) st k e = iprop(emp) := fun k e => by
    match st, h with
    | 2, _ => rfl
    | 3, _ => rfl
  simp only [he, ks, bigSepL_cons', bigSepL_nil]
  iintro -
  isplitl; · iempintro
  isplitl; · iempintro
  isplitl <;> iempintro

/-- The barrier's payload, by exchange. -/
theorem bar_slots (c : Dev nD) :
    bigSepL sigL (barPay (F := F) c) ⊢ iprop(bigSepL ks (fun k => some' (peer 0 k c) (slotM (commM 0) k).view)
      ∗ bigSepL ks (fun k => some' (peer 1 k c) (slotM (commM 1) k).view)
      ∗ bigSepL ks (fun k => some' (peer 2 k c) (slotM (commM 2) k).view)
      ∗ bigSepL ks (fun k => some' (peer 3 k c) (slotM (commM 3) k).view)) := by
  unfold barPay ks
  simp only [bigSepL_cons', bigSepL_nil]
  iintro ⟨⟨A1, B1⟩, ⟨C1, D1⟩, ⟨A2, B2⟩, ⟨C2, D2⟩, ⟨A3, B3⟩, ⟨C3, D3⟩, -⟩
  isplitl [A1 A2 A3]
  · isplitl [A1]; · iexact A1
    isplitl [A2]; · iexact A2
    isplitl [A3]; · iexact A3
    iempintro
  isplitl [C1 C2 C3]
  · isplitl [C1]; · iexact C1
    isplitl [C2]; · iexact C2
    isplitl [C3]; · iexact C3
    iempintro
  isplitl [B1 B2 B3]
  · isplitl [B1]; · iexact B1
    isplitl [B2]; · iexact B2
    isplitl [B3]; · iexact B3
    iempintro
  isplitl [D1]; · iexact D1
  isplitl [D2]; · iexact D2
  isplitl [D3]; · iexact D3
  iempintro

/-- What the last exchange starts from but for the partners' slots. -/
def lastRes (c : Dev nD) (mo : Memref sig .tc .vmem S8x128 .f32) : sProp 𝕄 :=
  iprop(some' c p2M.view ∗ some' c mo.view
    ∗ bigSepL ks2 (fun k => iprop(dutyTok ER (cell c (kSnd2 k)) 0 (0, 0) ∗ dutyTok ER (cell (rot k c) (kRcv2 k)) 0 (0, 0)))
    ∗ bigSepL ks2 (fun k => cred (tallyAt (cell c (kRcv2 k)) () (kamt (kRcv2 k)))))

/-- What the last exchange starts from, put together from where the body has it. -/
theorem last_pre (c : Dev nD) (mo : Memref sig .tc .vmem S8x128 .f32) :
    iprop(lastRes (F := F) c mo ∗ (bigSepL ks2 (fun k => atPos ER (cell c (kSnd2 k)) 0 ∅ 0) ∗ bigSepL ks2 (fun k => atPos ER (cell c (kRcv2 k)) 0 ∅ 0))
      ∗ (some' (rot 0 c) (slot2M 0).view ∗ bigSepL ks2 (fun k => some' (rot k c) (slot2M k).view)))
      ⊢ lastPre c mo := by
  unfold lastRes lastPre
  rw [rot_zero]
  iintro ⟨⟨Hp, Ho, Ht, Hc⟩, ⟨Ha, Hb⟩, Hs, Hd⟩
  isplitl [Hp]; · iexact Hp
  isplitl [Hs]; · iexact Hs
  isplitl [Ho]; · iexact Ho
  isplitl [Ht Hd]
  · iapply (sepL_sep ks2 _ _).2
    isplitl [Hd] <;> iassumption
  isplitl [Ha]; · iexact Ha
  iapply (sepL_sep ks2 _ _).2
  isplitl [Hc] <;> iassumption

/-- A load of a whole buffer. -/
theorem load_full {α : Type} (c : Dev nD) {s : Shape} {e : EltTy} (mm : Memref sig .tc .vmem s e) {off : Fin s.rank → ℕ}
    (inb : ∀ a, off a + s.size a ≤ s.size a) (hl : View.LoadsAt mm.view (Rect.unit off s.size inb).toLoadRect) (X : s.Idx → Elt F e)
    (k : (s.Idx → Elt F e) → Prog (OpT F) α) (Q : α → sProp 𝕄) :
    iprop(own c mm.view fullShare (mm.view.rep X) ∗ (own c mm.view fullShare (mm.view.rep X) -∗ WP c (k X) Q))
      ⊢ WP c (.op (.load mm (Rect.unit off s.size inb).toLoadRect hl) k) Q := by
  have hx := View.readAt_rep_full (Val := Elt F) mm.view X inb
  iintro ⟨Ho, Hk⟩
  ihave Ho := (own_open c mm.view fullShare (mm.view.rep X)) $$ Ho
  iapply (wp_load 𝒱₀ (c : Thread nD τ) none Set.univ (m := mm) (r := (Rect.unit off s.size inb).toLoadRect) (View.setOn_subset_set _ _)) $$ Ho
  iintro Ho
  rw [hx]
  iapply Hk
  unfold own
  iexact Ho

/-- What the body starts from on device `c`; `mo` is the result's buffer. -/
def bodyPre (c : Dev nD) (mo : Memref sig .tc .vmem S8x128 .f32) : sProp 𝕄 :=
  iprop(bigSepL sigL (fun i => iprop(barPay (peer i.1 i.2 c) (i.1, -i.2) ∗ dutyTok ER (cell (peer i.1 i.2 c) kBar) 0 (i.1, -i.2)))
    ∗ bigSepL insL (fun i => iprop(own c (inSrc i).view fullShare (m (View.loc (c : Thread nD τ) (inSrc i).view)) ∗ some' c (inDst i).view
          ∗ dutyTok ER (cell c (kIn i)) 0 (0, 0)))
    ∗ (cred (tallyAt (cell c kBar) () 6) ∗ atPos ER (cell c kBar) 0 ∅ 0)
    ∗ bigSepL okeys (fun o => atPos ER (cell c (.inr o)) 0 ∅ 0)
    ∗ (stRes 0 c ∗ stRes 1 c ∗ stRes 2 c ∗ stRes 3 c) ∗ some' c c2M.view ∗ lastRes c mo)

/-- What the body leaves. -/
def bodyPost (c : Dev nD) (mo : Memref sig .tc .vmem S8x128 .f32) : sProp 𝕄 :=
  iprop(bigSepL insL (fun i => iprop(own c (inDst i).view fullShare (inRep m c i) ∗ own c (inSrc i).view fullShare (m (View.loc (c : Thread nD τ) (inSrc i).view))))
    ∗ (own c (commM 0).view fullShare (stRep m 0 c) ∗ own c (commM 1).view fullShare (stRep m 1 c)
      ∗ own c (commM 2).view fullShare (stRep m 2 c) ∗ own c (commM 3).view fullShare (stRep m 3 c))
    ∗ own c p2M.view fullShare (prodRep m c) ∗ own c c2M.view fullShare (landRep m c)
    ∗ (∃ g, ⌜mo.view.read (Elt F) g = outAt m c⌝ ∗ own c mo.view fullShare g)
    ∗ semVal (cell c kBar) 0 ∗ bigSepL okeys (fun o => semVal (cell c (.inr o)) 0))

/-- A batch of argument waits. -/
theorem wp_inputs {α : Type} (c : Dev nD) (is : List (Fin 7)) (l : List (Dev nD × Key)) (hl : ∀ x ∈ l, 0 < klev x.2)
    (k : Prog (OpT F) α) (Q : α → sProp 𝕄) :
    iprop(recs m K ∗ (bigSepL is (fun i => cred (tallyAt (cell c (kIn i)) () (kamt (kIn i)))) ∗ bigSepL is (fun i => atPos ER (cell c (kIn i)) 0 ∅ 0))
        ∗ owing c l
        ∗ (((bigSepL is (fun i => semVal (cell c (kIn i)) 0) ∗ bigSepL is (fun i => iprop(own c (inDst i).view fullShare (inRep m c i)
              ∗ own c (inSrc i).view fullShare (m (View.loc (c : Thread nD τ) (inSrc i).view))))) ∗ owing c l) -∗ WP c k Q))
      ⊢ WP c (opChain inWait k is) Q := by
  iintro ⟨#HR, ⟨Hc, Ha⟩, HO, Hk⟩
  iapply (wp_takes m K c inWait kIn is l (fun i _ p Q => wp_take m K c (kIn i) (src := inSrc i) (dst := inDst i)
    (hsrc := (inSrc_whole i).wordExact) (hdst := (inDst_whole i).wordExact) rfl rfl rfl l hl p Q))
  isplitr; · iexact HR
  isplitl [Hc Ha]
  · iapply (sepL_sep is _ _).2
    isplitl [Hc] <;> iassumption
  isplitl [HO]; · iexact HO
  iintro ⟨H, HO⟩
  ihave H := (sepL_sep is _ _).1 $$ H
  icases H with ⟨Hz, Hp⟩
  iapply Hk
  isplitl [Hz Hp]
  · isplitl [Hz]; · iexact Hz
    iexact Hp
  iexact HO

/-- Three things of a list, one by one. -/
theorem sepL_three {M I : Type} [URA M] (a b d : I) (Φ : I → sProp M) : bigSepL [a, b, d] Φ ⊣⊢ iprop(Φ a ∗ Φ b ∗ Φ d) := by
  rw [bigSepL_cons', bigSepL_cons', bigSepL_cons', bigSepL_nil]
  constructor
  · iintro ⟨Ha, Hb, Hd, -⟩
    isplitl [Ha]; · iexact Ha
    isplitl [Hb] <;> iassumption
  · iintro ⟨Ha, Hb, Hd⟩
    isplitl [Ha]; · iexact Ha
    isplitl [Hb]; · iexact Hb
    isplitl [Hd]; · iexact Hd
    iempintro

/-- Two things of a list, one by one. -/
theorem sepL_two {M I : Type} [URA M] (a b : I) (Φ : I → sProp M) : bigSepL [a, b] Φ ⊣⊢ iprop(Φ a ∗ Φ b) := by
  rw [bigSepL_cons', bigSepL_cons', bigSepL_nil]
  constructor
  · iintro ⟨Ha, Hb, -⟩
    isplitl [Ha] <;> iassumption
  · iintro ⟨Ha, Hb⟩
    isplitl [Ha]; · iexact Ha
    isplitl [Hb]; · iexact Hb
    iempintro

/-- A barrier signal, at the device the body computes. -/
theorem wp_tell' {α : Type} (c : Dev nD) (i : D) (hi : i ∈ sigL) (l : List (Dev nD × Key)) (p : Prog (OpT F) α) (Q : α → sProp 𝕄) :
    iprop(recs m K ∗ (barPay (peer i.1 i.2 c) (i.1, -i.2) ∗ dutyTok ER (cell (peer i.1 i.2 c) kBar) 0 (i.1, -i.2))
        ∗ owing c ((peer i.1 i.2 c, kBar) :: l) ∗ ((emp ∗ owing c l) -∗ WP c p Q))
      ⊢ WP c (.op (.semSignal (sigDev c i, .tc) barSem (1#32 : BitVec 32).toInt) fun _ => p) Q := by
  rw [sigDev_eq]
  exact wp_tell m K c _ i rfl hi l p Q

/-- The run of the body. -/
theorem wp_body (c : Dev nD) (mo : Memref sig .tc .vmem S8x128 .f32) (Q : PUnit → sProp 𝕄) :
    iprop(recs m K ∗ bodyPre m c mo ∗ owing c (dues c) ∗ ((bodyPost m c mo ∗ owing c []) -∗ Q ⟨⟩)) ⊢ WP c (prog mo) Q := by
  obtain ⟨l4, l3, l2, l1, l0⟩ := lev_from c
  have hins : ∀ (Φ : Fin 7 → sProp 𝕄), bigSepL insL Φ = iprop(bigSepL [0, 1, 2] Φ ∗ bigSepL [3, 4] Φ ∗ bigSepL [5, 6] Φ) := fun Φ => by
    unfold insL; rw [bigSepL_append, bigSepL_append]
  unfold prog bodyPre
  iintro ⟨#HR, ⟨Hsig, Hin, Hbar, Hat, ⟨Hs0, Hs1, Hs2, Hs3⟩, Hc2, Hlast⟩, HO, Hk⟩
  ihave Hat := (okeys_split _).1 $$ Hat
  icases Hat with ⟨Hai, Ha0, Ha1, Ha2, Ha3, Ha4, Hidle⟩
  imod (close_list m K c idleL (by decide)) $$ [Hidle] with Hidle
  · isplitr; · iexact HR
    iexact Hidle
  simp only [wp_deviceId]
  -- the barrier signals
  iapply (wp_chain c (recs m K) _ _ Q (fun i => iprop(barPay (peer i.1 i.2 c) (i.1, -i.2) ∗ dutyTok ER (cell (peer i.1 i.2 c) kBar) 0 (i.1, -i.2)))
    (fun _ => iprop(emp)) (fun r => owing c (duesBar c r ++ duesFrom c 0)) sigL
    (fun i hi r p _ => wp_tell' m K c i hi (duesBar c r ++ duesFrom c 0) p Q))
  isplitr; · iexact HR
  isplitl [Hsig]; · iexact Hsig
  isplitl [HO]; · iexact HO
  iintro ⟨-, HO⟩
  -- the argument copies
  ihave HO := (show owing c (duesBar c [] ++ duesFrom c 0) ⊢ owing c (duesFrom c 0) from .rfl) $$ HO
  iapply (wp_chain c (recs m K) _ _ Q (fun i => iprop(own c (inSrc i).view fullShare (m (View.loc (c : Thread nD τ) (inSrc i).view)) ∗ some' c (inDst i).view
          ∗ dutyTok ER (cell c (kIn i)) 0 (0, 0)))
    (fun i => cred (tallyAt (cell c (kIn i)) () (kamt (kIn i)))) (fun _ => owing c (duesFrom c 0)) insL
    (fun i _ r p _ => wp_fetch m K c i (duesFrom c 0) p Q))
  isplitr; · iexact HR
  isplitl [Hin]; · iexact Hin
  isplitl [HO]; · iexact HO
  iintro ⟨Hci, HO⟩
  ihave Hci := (Entails.of_eq (hins _)) $$ Hci
  ihave Hai := (Entails.of_eq (hins _)) $$ Hai
  icases Hci with ⟨Hc012, Hc34, Hc56⟩
  icases Hai with ⟨Ha012, Ha34, Ha56⟩
  iapply (wp_inputs m K c [0, 1, 2] (duesFrom c 0) (fun x hx => lt_trans (by decide) (l0 x hx)))
  isplitr; · iexact HR
  isplitl [Hc012 Ha012]
  · isplitl [Hc012] <;> iassumption
  isplitl [HO]; · iexact HO
  iintro ⟨⟨Hz012, Hp012⟩, HO⟩
  ihave Hp := (sepL_three (0 : Fin 7) 1 2 _).1 $$ Hp012
  icases Hp with ⟨⟨Hd0, Hr0⟩, ⟨Hd1, Hr1⟩, ⟨Hd2, Hr2⟩⟩
  iapply (load_full c (inDst 0) inb_S128x128_S128x128_0_0 (View.loadsAt_vmem h_S128x128) (ain m c 0))
  isplitl [Hd0]; · iexact Hd0
  iintro Hd0
  iapply (load_full c (inDst 1) inb_S128x256_S128x256_0_0 (View.loadsAt_vmem h_S128x256) (ain m c 1))
  isplitl [Hd1]; · iexact Hd1
  iintro Hd1
  iapply (load_full c (inDst 2) inb_S256x128_S256x128_0_0 (View.loadsAt_vmem h_S256x128) (ain m c 2))
  isplitl [Hd2]; · iexact Hd2
  iintro Hd2
  -- the barrier
  iapply (wp_barrier m K c (duesFrom c 0) l0)
  isplitr; · iexact HR
  isplitl [Hbar]; · iexact Hbar
  isplitl [HO]; · iexact HO
  iintro ⟨⟨Hzb, Hp⟩, HO⟩
  ihave Hp := (bar_slots c) $$ Hp
  icases Hp with ⟨Hb0, Hb1, Hb2, Hb3⟩
  -- the first layer's exchanges
  ihave Hc2 := (slots_own c) $$ Hc2
  ihave Hc2 := (Entails.of_eq ((slots_out0 c).trans (sep4 _))) $$ Hc2
  icases Hc2 with ⟨He, Hes⟩
  ihave Hpre := (stage_pre 0 c) $$ [Hs0 Ha0 Hb0 Hes]
  · isplitl [Hs0]; · iexact Hs0
    isplitl [Ha0]; · iexact Ha0
    isplitl [Hb0] <;> iassumption
  iapply (wp_stage m K c 0 (stDev c 0) (stDev_eq c 0) (duesFrom c 1) l1)
  isplitr; · iexact HR
  isplitl [Hpre]; · iexact Hpre
  isplitl [HO]; · iexact HO
  iintro ⟨Hp, HO⟩
  ihave Hp := (stage_post m 0 c) $$ Hp
  icases Hp with ⟨Hm0, Hes, Hz0⟩
  have hx1 : iprop(ext (F := F) 0 0 (peer 0 0 c) ∗ bigSepL ks fun k => ext 0 k c)
      ⊢ iprop(ext 1 0 (peer 1 0 c) ∗ bigSepL ks fun k => ext 1 k (peer 1 k c)) := by
    rw [peer_none 0 c]
    exact Entails.of_eq ((sep4 fun k => ext 0 k c).symm.trans ((slots_out1 c).trans (sep4 _)))
  ihave He := hx1 $$ [He Hes]
  · isplitl [He] <;> iassumption
  icases He with ⟨He, Hes⟩
  ihave Hpre := (stage_pre 1 c) $$ [Hs1 Ha1 Hb1 Hes]
  · isplitl [Hs1]; · iexact Hs1
    isplitl [Ha1]; · iexact Ha1
    isplitl [Hb1] <;> iassumption
  iapply (wp_stage m K c 1 (stDev c 1) (stDev_eq c 1) (duesFrom c 2) l2)
  isplitr; · iexact HR
  isplitl [Hpre]; · iexact Hpre
  isplitl [HO]; · iexact HO
  iintro ⟨Hp, HO⟩
  ihave Hp := (stage_post m 1 c) $$ Hp
  icases Hp with ⟨Hm1, Hes, Hz1⟩
  have hx2 : iprop(ext (F := F) 1 0 (peer 1 0 c) ∗ bigSepL ks fun k => ext 1 k c)
      ⊢ iprop(some' (rot 0 c) (slot2M 0).view ∗ bigSepL ks2 fun k => some' (rot k c) (slot2M k).view) := by
    rw [peer_none 1 c]
    exact Entails.of_eq ((sep4 fun k => ext 1 k c).symm.trans ((slots_out2 c).trans (sep16 _)))
  ihave Hsl := hx2 $$ [He Hes]
  · isplitl [He] <;> iassumption
  -- the second layer
  iapply (wp_inputs m K c [3, 4] (duesFrom c 2) (fun x hx => lt_trans (by decide) (l2 x hx)))
  isplitr; · iexact HR
  isplitl [Hc34 Ha34]
  · isplitl [Hc34] <;> iassumption
  isplitl [HO]; · iexact HO
  iintro ⟨⟨Hz34, Hp⟩, HO⟩
  ihave Hp := (sepL_two (3 : Fin 7) 4 _).1 $$ Hp
  icases Hp with ⟨⟨Hd3, Hr3⟩, ⟨Hd4, Hr4⟩⟩
  iapply (load_full c (inDst 3) inb_S128x256_S128x256_0_0 (View.loadsAt_vmem h_S128x256) (ain m c 3))
  isplitl [Hd3]; · iexact Hd3
  iintro Hd3
  iapply (load_full c (inDst 4) inb_S256x128_S256x128_0_0 (View.loadsAt_vmem h_S256x128) (ain m c 4))
  isplitl [Hd4]; · iexact Hd4
  iintro Hd4
  ihave Hes := (ext_none 2 (by decide) fun k => peer 2 k c) $$ []
  · iempintro
  ihave Hpre := (stage_pre 2 c) $$ [Hs2 Ha2 Hb2 Hes]
  · isplitl [Hs2]; · iexact Hs2
    isplitl [Ha2]; · iexact Ha2
    isplitl [Hb2] <;> iassumption
  iapply (wp_stage m K c 2 (stDev c 2) (stDev_eq c 2) (duesFrom c 3) l3)
  isplitr; · iexact HR
  isplitl [Hpre]; · iexact Hpre
  isplitl [HO]; · iexact HO
  iintro ⟨Hp, HO⟩
  ihave Hp := (stage_post m 2 c) $$ Hp
  icases Hp with ⟨Hm2, -, Hz2⟩
  ihave Hes := (ext_none 3 (by decide) fun k => peer 3 k c) $$ []
  · iempintro
  ihave Hpre := (stage_pre 3 c) $$ [Hs3 Ha3 Hb3 Hes]
  · isplitl [Hs3]; · iexact Hs3
    isplitl [Ha3]; · iexact Ha3
    isplitl [Hb3] <;> iassumption
  iapply (wp_stage m K c 3 (stDev c 3) (stDev_eq c 3) (duesFrom c 4) l4)
  isplitr; · iexact HR
  isplitl [Hpre]; · iexact Hpre
  isplitl [HO]; · iexact HO
  iintro ⟨Hp, HO⟩
  ihave Hp := (stage_post m 3 c) $$ Hp
  icases Hp with ⟨Hm3, -, Hz3⟩
  -- the last layer
  iapply (wp_inputs m K c [5, 6] (duesFrom c 4) (fun x hx => lt_trans (by decide) (l4 x hx)))
  isplitr; · iexact HR
  isplitl [Hc56 Ha56]
  · isplitl [Hc56] <;> iassumption
  isplitl [HO]; · iexact HO
  iintro ⟨⟨Hz56, Hp⟩, HO⟩
  ihave Hp := (sepL_two (5 : Fin 7) 6 _).1 $$ Hp
  icases Hp with ⟨⟨Hd5, Hr5⟩, ⟨Hd6, Hr6⟩⟩
  iapply (load_full c (inDst 5) inb_S128x256_S128x256_0_0 (View.loadsAt_vmem h_S128x256) (ain m c 5))
  isplitl [Hd5]; · iexact Hd5
  iintro Hd5
  iapply (load_full c (inDst 6) inb_S256x128_S256x128_0_0 (View.loadsAt_vmem h_S256x128) (ain m c 6))
  isplitl [Hd6]; · iexact Hd6
  iintro Hd6
  ihave Hpre := (last_pre c mo) $$ [Hlast Ha4 Hsl]
  · isplitl [Hlast]; · iexact Hlast
    isplitl [Ha4] <;> iassumption
  iapply (wp_last m K c (r2Dev c) (r2Dev_eq c) mo _ rfl)
  isplitr; · iexact HR
  isplitl [Hpre]; · iexact Hpre
  isplitl [HO]; · iexact HO
  iintro ⟨Hp, HO⟩
  ihave Hp := (last_post m c mo) $$ Hp
  icases Hp with ⟨Hp2, Hl2, Ho, Hz4⟩
  iapply Hk
  isplitr [HO]
  · unfold bodyPost
    isplitl [Hd0 Hd1 Hd2 Hd3 Hd4 Hd5 Hd6 Hr0 Hr1 Hr2 Hr3 Hr4 Hr5 Hr6]
    · iapply (Entails.of_eq (hins _).symm)
      isplitl [Hd0 Hd1 Hd2 Hr0 Hr1 Hr2]
      · iapply (sepL_three (0 : Fin 7) 1 2 _).2
        isplitl [Hd0 Hr0]; · isplitl [Hd0]; · iexact Hd0
                             iexact Hr0
        isplitl [Hd1 Hr1]; · isplitl [Hd1]; · iexact Hd1
                             iexact Hr1
        isplitl [Hd2]; · iexact Hd2
        iexact Hr2
      isplitl [Hd3 Hd4 Hr3 Hr4]
      · iapply (sepL_two (3 : Fin 7) 4 _).2
        isplitl [Hd3 Hr3]; · isplitl [Hd3]; · iexact Hd3
                             iexact Hr3
        isplitl [Hd4]; · iexact Hd4
        iexact Hr4
      iapply (sepL_two (5 : Fin 7) 6 _).2
      isplitl [Hd5 Hr5]; · isplitl [Hd5]; · iexact Hd5
                           iexact Hr5
      isplitl [Hd6]; · iexact Hd6
      iexact Hr6
    isplitl [Hm0 Hm1 Hm2 Hm3]
    · isplitl [Hm0]; · iexact Hm0
      isplitl [Hm1]; · iexact Hm1
      isplitl [Hm2] <;> iassumption
    isplitl [Hp2]; · iexact Hp2
    isplitl [Hl2]; · iexact Hl2
    isplitl [Ho]; · iexact Ho
    isplitl [Hzb]; · iexact Hzb
    iapply (okeys_split _).2
    isplitl [Hz012 Hz34 Hz56]
    · iapply (Entails.of_eq (hins _).symm)
      isplitl [Hz012]; · iexact Hz012
      isplitl [Hz34]; · iexact Hz34
      iexact Hz56
    isplitl [Hz0]; · iexact Hz0
    isplitl [Hz1]; · iexact Hz1
    isplitl [Hz2]; · iexact Hz2
    isplitl [Hz3]; · iexact Hz3
    isplitl [Hz4]; · iexact Hz4
    iexact Hidle
  iexact HO

end Cert.Talk

end
-- ==== Proof.Ghost.lean ====
/-
# The tickets at launch

Every duty's ticket is minted with its semaphore; the tickets are then dealt to the devices that pay (`deal_all`), every
semaphore's invariant is allocated and its record shared (`glob`), and the credits of what the devices owe one another are
read off as each device's own (`creds`).
-/
module

public import proofs.«01_k».proof.Proof.Body

@[expose] public section

set_option maxRecDepth 8192

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Partners, as bijections of the devices -/

/-- The partner at a distance along an axis. -/
def peerE (ax k : Fin 4) : Dev nD ≃ Dev nD :=
  Equiv.ofBijective (peer ax k) ((by decide +kernel : ∀ ax k : Fin 4, Function.Bijective (peer ax k)) ax k)
/-- The device a distance around the ring of all. -/
def turnE (k : Fin 16) : Dev nD ≃ Dev nD :=
  Equiv.ofBijective (rot k) ((by decide +kernel : ∀ k : Fin 16, Function.Bijective (rot k)) k)

/-- Families along a list, taken over all devices together. -/
theorem sep_devs {M I : Type} [URA M] (l : List I) (Φ : Dev nD → I → sProp M) :
    (bigSep Finset.univ fun c => bigSepL l (Φ c)) = bigSepL l fun i => bigSep Finset.univ fun c => Φ c i := by
  induction l with
  | nil => simp only [bigSepL_nil]; exact BI.bigSep_emp_const _
  | cons i r ih =>
    simp only [bigSepL_cons']
    rw [bigSep_sep', ih]

/-- A family over devices and a list, each member's devices renamed. -/
theorem deal {M I : Type} [URA M] (l : List I) (e : I → Dev nD ≃ Dev nD) (Φ : Dev nD → I → sProp M) :
    (bigSep Finset.univ fun c => bigSepL l (Φ c)) = bigSep Finset.univ fun c => bigSepL l fun i => Φ (e i c) i := by
  rw [sep_devs, sep_devs]
  congr 1
  funext i
  exact bigSep_univ_equiv (e i) _

/-! ## The tickets -/

/-- The tickets device `c`'s semaphores are minted with. -/
def toks (c : Dev nD) : sProp 𝕄 :=
  bigSep Finset.univ fun κ : Key => bigSep Finset.univ fun d : D => dutyTok ER (cell c κ) 0 d

/-- The tickets of the duties device `c` pays. -/
def payToks (c : Dev nD) : sProp 𝕄 :=
  iprop(bigSepL sigL (fun i => dutyTok ER (cell (peer i.1 i.2 c) kBar) 0 (i.1, -i.2))
    ∗ bigSepL insL (fun i => dutyTok ER (cell c (kIn i)) 0 (0, 0))
    ∗ ((bigSepL ks (fun k => dutyTok ER (cell c (kSnd 0 k)) 0 (0, 0)) ∗ bigSepL ks (fun k => dutyTok ER (cell (peer 0 k c) (kRcv 0 k)) 0 (0, 0)))
    ∗ (bigSepL ks (fun k => dutyTok ER (cell c (kSnd 1 k)) 0 (0, 0)) ∗ bigSepL ks (fun k => dutyTok ER (cell (peer 1 k c) (kRcv 1 k)) 0 (0, 0)))
    ∗ (bigSepL ks (fun k => dutyTok ER (cell c (kSnd 2 k)) 0 (0, 0)) ∗ bigSepL ks (fun k => dutyTok ER (cell (peer 2 k c) (kRcv 2 k)) 0 (0, 0)))
    ∗ (bigSepL ks (fun k => dutyTok ER (cell c (kSnd 3 k)) 0 (0, 0)) ∗ bigSepL ks (fun k => dutyTok ER (cell (peer 3 k c) (kRcv 3 k)) 0 (0, 0))))
    ∗ (bigSepL ks2 (fun k => dutyTok ER (cell c (kSnd2 k)) 0 (0, 0)) ∗ bigSepL ks2 (fun k => dutyTok ER (cell (rot k c) (kRcv2 k)) 0 (0, 0))))

/-- What is held per semaphore: the barrier's, and the others'. -/
theorem sep_keys {M : Type} [URA M] (Φ : Key → sProp M) :
    bigSep Finset.univ Φ = iprop(Φ kBar ∗ bigSep Finset.univ fun o : OKey => Φ (.inr o)) := by
  have h := BI.bigSep_univ_sum (M := M) (α := Unit) (β := OKey) Φ
  rw [Finset.univ_unique (α := Unit), BI.bigSep_singleton] at h
  exact h

/-- Of its semaphores' tickets, a device's barrier's six and one of each other semaphore. -/
theorem toks_pick (c : Dev nD) :
    (toks c : sProp 𝕄) ⊢ iprop(bigSepL sigL (fun i => dutyTok ER (cell c kBar) 0 (i.1, -i.2))
      ∗ bigSepL okeys (fun o => dutyTok ER (cell c (.inr o)) 0 (0, 0))) := by
  have h1 : (bigSep Finset.univ fun d : D => (dutyTok ER (cell c kBar) 0 d : sProp 𝕄)) ⊢ bigSepL sigL (fun i => dutyTok ER (cell c kBar) 0 (i.1, -i.2)) := by
    refine (bigSep_subset (Finset.subset_univ (sigL.map fun i : D => (i.1, -i.2)).toFinset)).trans ?_
    rw [bigSep_eq_bigSepL_of_eq (I := D) (S := (sigL.map fun i : D => (i.1, -i.2)).toFinset) (sigL.map fun i : D => (i.1, -i.2)) rfl (by decide), bigSepL_map]
    exact BI.Entails.refl _
  have h2 : (bigSep Finset.univ fun o : OKey => bigSep Finset.univ fun d : D => (dutyTok ER (cell c (.inr o)) 0 d : sProp 𝕄))
      ⊢ bigSepL okeys (fun o => dutyTok ER (cell c (.inr o)) 0 (0, 0)) := by
    rw [← sep_okeys]
    exact bigSep_mono fun o _ => bigSep_elim (Finset.mem_univ ((0, 0) : D))
  unfold toks
  rw [sep_keys]
  exact BI.sep_mono h1 h2

/-- The tickets dealt: each to the device that pays the duty. -/
theorem deal_all : (bigSep Finset.univ fun c : Dev nD => (toks c : sProp 𝕄)) ⊢ bigSep Finset.univ fun c : Dev nD => payToks c := by
  have h : ∀ c : Dev nD, (toks c : sProp 𝕄) ⊢ iprop(bigSepL sigL (fun i => dutyTok ER (cell c kBar) 0 (i.1, -i.2))
    ∗ bigSepL insL (fun i => dutyTok ER (cell c (kIn i)) 0 (0, 0))
    ∗ ((bigSepL ks (fun k => dutyTok ER (cell c (kSnd 0 k)) 0 (0, 0)) ∗ bigSepL ks (fun k => dutyTok ER (cell c (kRcv 0 k)) 0 (0, 0)))
    ∗ (bigSepL ks (fun k => dutyTok ER (cell c (kSnd 1 k)) 0 (0, 0)) ∗ bigSepL ks (fun k => dutyTok ER (cell c (kRcv 1 k)) 0 (0, 0)))
    ∗ (bigSepL ks (fun k => dutyTok ER (cell c (kSnd 2 k)) 0 (0, 0)) ∗ bigSepL ks (fun k => dutyTok ER (cell c (kRcv 2 k)) 0 (0, 0)))
    ∗ (bigSepL ks (fun k => dutyTok ER (cell c (kSnd 3 k)) 0 (0, 0)) ∗ bigSepL ks (fun k => dutyTok ER (cell c (kRcv 3 k)) 0 (0, 0))))
    ∗ (bigSepL ks2 (fun k => dutyTok ER (cell c (kSnd2 k)) 0 (0, 0)) ∗ bigSepL ks2 (fun k => dutyTok ER (cell c (kRcv2 k)) 0 (0, 0)))) := fun c => by
    iintro H
    ihave H := (toks_pick c) $$ H
    icases H with ⟨Hb, Ho⟩
    ihave Ho := (okeys_split _).1 $$ Ho
    icases Ho with ⟨Hi, H0, H1, H2, H3, H4, -⟩
    isplitl [Hb]; · iexact Hb
    isplitl [Hi]; · iexact Hi
    isplitr [H4]
    · isplitl [H0]; · iexact H0
      isplitl [H1]; · iexact H1
      isplitl [H2]; · iexact H2
      iexact H3
    iexact H4
  refine (bigSep_mono fun c _ => h c).trans ?_
  unfold payToks
  simp only [bigSep_sep']
  rw [deal sigL (fun i => peerE i.1 i.2) (fun c i => (dutyTok ER (cell c kBar) 0 (i.1, -i.2) : sProp 𝕄)),
    deal ks (fun k => peerE 0 k) (fun c k => (dutyTok ER (cell c (kRcv 0 k)) 0 (0, 0) : sProp 𝕄)),
    deal ks (fun k => peerE 1 k) (fun c k => (dutyTok ER (cell c (kRcv 1 k)) 0 (0, 0) : sProp 𝕄)),
    deal ks (fun k => peerE 2 k) (fun c k => (dutyTok ER (cell c (kRcv 2 k)) 0 (0, 0) : sProp 𝕄)),
    deal ks (fun k => peerE 3 k) (fun c k => (dutyTok ER (cell c (kRcv 3 k)) 0 (0, 0) : sProp 𝕄)),
    deal ks2 turnE (fun c k => (dutyTok ER (cell c (kRcv2 k)) 0 (0, 0) : sProp 𝕄))]
  exact BI.Entails.refl _

/-! ## What the launch mints -/

/-- Every semaphore of the schedule, on every device. -/
def cells : Finset (GSem nD τ sig) := Finset.univ.map ⟨fun x : Dev nD × Key => cell x.1 x.2, cell_inj⟩

/-- Different duties have different tickets. -/
theorem tok_inj : Function.Injective fun x : Dev nD × (Key × D) => ((cell x.1 x.2.1, 0, x.2.2) : GSem nD τ sig × ℕ × D) := by
  rintro ⟨c, κ, d⟩ ⟨c', κ', d'⟩ h
  have h1 := cell_inj (a₁ := (c, κ)) (a₂ := (c', κ')) (congrArg Prod.fst h)
  have h2 : d = d' := congrArg (fun x : GSem nD τ sig × ℕ × D => x.2.2) h
  cases h1; cases h2; rfl

/-- A ticket for every duty of every semaphore on every device. -/
def tickets : Finset (GSem nD τ sig × ℕ × D) := Finset.univ.map ⟨_, tok_inj⟩

/-- The launch's tokens: the pipeline's and the schedule's. -/
def u₀ : UU :=
  (initOf (Pipeline.cells cfgs cellOf_inj) (Pipeline.launchToks cfgs cellOf_inj), initOf cells tickets)

/-- What the launch deals device `c`. -/
def G (c : Dev nD) : sProp 𝕄 :=
  iprop((bigSep Finset.univ fun κ : Key => roundState ER (sched m) (cell c κ) 0)
    ∗ (bigSep Finset.univ fun κ : Key => reached ER (cell c κ) 0)
    ∗ (bigSep Finset.univ fun κ : Key => atPos ER (cell c κ) 0 ∅ 0) ∗ toks c)

/-- What every device knows, but for the levels. -/
def invs (K : Dev nD × Key → ℕ) : sProp 𝕄 :=
  iprop((bigSep Finset.univ fun x : Dev nD × Key => cellInv ER (sched m) (K x) (cell x.1 x.2))
    ∗ bigSep Finset.univ fun x : Dev nD × Key => reached ER (cell x.1 x.2) 0)

/-- It stays known once it is. -/
instance invs_persistent (K : Dev nD × Key → ℕ) : BI.Persistent (invs m K) := by unfold invs; infer_instance

/-- What the step over all devices makes of it. -/
def G' (c : Dev nD) : sProp 𝕄 :=
  iprop(∃ K, invs m K ∗ (bigSep Finset.univ fun κ : Key => atPos ER (cell c κ) 0 ∅ 0) ∗ payToks c)

/-- The schedule's tokens dealt out, each device its own. -/
theorem fund_all : BI.own (ER (initOf cells tickets)) ⊢ (|==> bigSep Finset.univ (G m) : sProp 𝕄) := by
  have hX (Φ : GSem nD τ sig → sProp 𝕄) : bigSep cells Φ = bigSep Finset.univ fun c : Dev nD => bigSep Finset.univ fun κ : Key => Φ (cell c κ) := by
    unfold cells; rw [bigSep_map, bigSep_univ_prod]; rfl
  have hT : bigSep tickets (fun x => (dutyTok ER x.1 x.2.1 x.2.2 : sProp 𝕄)) = bigSep Finset.univ fun c : Dev nD => toks c := by
    unfold tickets; rw [bigSep_map, bigSep_univ_prod]
    exact bigSep_congr fun c _ => by unfold toks; rw [bigSep_univ_prod]; rfl
  iintro HX
  imod (Rounds.fund ER (sched m) cells tickets) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hr]; · iexact Hr
  isplitl [Hat]; · iexact Hat
  iexact Htok

/-- The unscoped semaphore is the barrier's. -/
theorem unscoped_eq (c : Dev nD) : (unscopedSems0 c : sProp 𝕄) = semVal (cell c kBar) 0 := by
  unfold unscopedSems0; rw [bigSep_eq_bigSepL_of_eq [SemLoc.reg barSem] (by decide) (by decide)]; rfl

/-- A device's semaphores together. -/
theorem sems_all (c : Dev nD) :
    iprop(Pipeline.ownSems0 (Ix := Unit) (Name := ℕ) (U := UU) (Lvl := ℕ) (Val := Elt F) (τ := τ) osem c ∗ unscopedSems0 c)
      ⊢ (bigSep Finset.univ fun κ : Key => semVal (cell c κ) 0 : sProp 𝕄) := by
  have h : iprop((semVal (cell c kBar) 0 : sProp 𝕄) ∗ bigSep Finset.univ fun o : OKey => semVal (cell c (.inr o)) 0)
      ⊢ bigSep Finset.univ fun κ : Key => semVal (cell c κ) 0 := by
    rw [sep_keys]
  rw [unscoped_eq]
  iintro ⟨HO, HB⟩
  iapply h
  isplitl [HB]; · iexact HB
  unfold Pipeline.ownSems0; iexact HO

/-- A device puts its semaphores into their invariants. -/
theorem alloc_dev (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun κ => iprop(∃ n : ℕ, cellInv ER (sched m) n (cell c κ)))
          ∗ (bigSep Finset.univ fun κ : Key => reached ER (cell c κ) 0)
          ∗ (bigSep Finset.univ fun κ : Key => atPos ER (cell c κ) 0 ∅ 0) ∗ toks c) := by
  have ha : iprop((bigSep Finset.univ fun κ : Key => semVal (cell c κ) 0) ∗ bigSep Finset.univ fun κ : Key => roundState ER (sched m) (cell c κ) 0)
      ⊢ (|={Set.univ}=> bigSep Finset.univ fun κ => iprop(∃ n : ℕ, cellInv ER (sched m) n (cell c κ)) : sProp 𝕄) := by
    rw [← bigSep_sep']
    exact (bigSep_mono fun κ _ => (Rounds.body_intro ER (sched m) (cell c κ)).trans inv_alloc).trans (bigSep_fupd _ _)
  unfold G
  iintro ⟨Hos, Hus, Hst, Hr, Hat, Htok⟩
  ihave Hv := (sems_all (F := F) c) $$ [Hos Hus]
  · isplitl [Hos] <;> iassumption
  imod ha $$ [Hv Hst] with Hinv
  · isplitl [Hv] <;> iassumption
  imodintro
  isplitl [Hinv]; · iexact Hinv
  isplitl [Hr]; · iexact Hr
  isplitl [Hat]; · iexact Hat
  iexact Htok

/-- What all know, handed to each beside what is its own. -/
theorem share_out {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- After every device has done so, each knows all the invariants and holds the tickets of the credits it pays. -/
theorem regroup :
    (bigSep Finset.univ fun c => iprop((bigSep Finset.univ fun κ => iprop(∃ n : ℕ, cellInv ER (sched m) n (cell c κ)))
          ∗ (bigSep Finset.univ fun κ : Key => reached ER (cell c κ) 0)
          ∗ (bigSep Finset.univ fun κ : Key => atPos ER (cell c κ) 0 ∅ 0) ∗ toks c) : sProp 𝕄)
      ⊢ bigSep Finset.univ (G' m) := by
  have hg (K : Dev nD × Key → ℕ) : iprop(invs m K ∗ bigSep Finset.univ fun c : Dev nD => iprop((bigSep Finset.univ fun κ : Key => atPos ER (cell c κ) 0 ∅ 0) ∗ payToks c))
      ⊢ bigSep Finset.univ (G' m) := share_out fun c => by
    unfold G'
    iintro ⟨#HI, Hat, Ht⟩
    iexists K
    isplitr; · iexact HI
    isplitl [Hat] <;> iassumption
  rw [bigSep_sep', bigSep_sep', bigSep_sep', ← bigSep_univ_prod (fun x : Dev nD × Key => iprop(∃ n : ℕ, cellInv ER (sched m) n (cell x.1 x.2))),
    ← bigSep_univ_prod (fun x : Dev nD × Key => (reached ER (cell x.1 x.2) 0 : sProp 𝕄))]
  iintro ⟨HI, #HR, Hat, Htok⟩
  ihave HK := (BI.bigSep_exists_pi Finset.univ (fun (x : Dev nD × Key) (n : ℕ) => (cellInv ER (sched m) n (cell x.1 x.2) : sProp 𝕄))) $$ HI
  icases HK with ⟨%K, #HI⟩
  ihave Htk := (deal_all (F := F)) $$ Htok
  iapply (hg K)
  isplitr
  · unfold invs; isplitl; · iexact HI
    iexact HR
  rw [bigSep_sep']
  isplitl [Hat] <;> iassumption

/-- Every device's semaphores at once: their invariants allocated, the tickets dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_dev m c).trans (bigSep_fupd _ _)).trans (BI.fupd_mono (regroup m))

/-! ## The credits at launch -/

/-- The duties as places: where each goes from any device, and which semaphore it credits. -/
def sites : List ((Dev nD ≃ Dev nD) × Key) :=
  sigL.map (fun i => (peerE i.1 i.2, kBar)) ++ (ks.map (fun k => (peerE 0 k, kRcv 0 k)) ++ (ks.map (fun k => (peerE 1 k, kRcv 1 k))
    ++ (ks.map (fun k => (peerE 2 k, kRcv 2 k)) ++ (ks.map (fun k => (peerE 3 k, kRcv 3 k)) ++ ks2.map (fun k => (turnE k, kRcv2 k))))))

/-- What a device owes, by places. -/
theorem dues_sites (c : Dev nD) : dues c = sites.map fun s => (s.1 c, s.2) := by
  unfold dues duesFrom duesBar duesSt dues2 sites
  simp only [List.map_append, List.map_map]
  rfl

/-- Over all devices, what is owed is what is due. -/
theorem sum_sites (l : List ((Dev nD ≃ Dev nD) × Key)) :
    (∑ d : Dev nD, tl (l.map fun s => (s.1 d, s.2))) = ∑ d : Dev nD, tl (l.map fun s => (d, s.2)) := by
  induction l with
  | nil => rfl
  | cons s r ih =>
    simp only [List.map_cons, tl]
    rw [Finset.sum_add_distrib, Finset.sum_add_distrib, ih, Equiv.sum_comp s.1 fun d => tallyAt (cell d s.2) () (kamt s.2)]

/-- The credit of a list, member by member. -/
theorem cred_tl (l : List (Dev nD × Key)) : (cred (tl l) : sProp 𝕄) ⊢ bigSepL l fun x => cred (tallyAt (cell x.1 x.2) () (kamt x.2)) := by
  induction l with
  | nil => rw [bigSepL_nil]; iintro -; iempintro
  | cons x r ih =>
    rw [bigSepL_cons']
    unfold tl
    refine (cred_add _ _).1.trans ?_
    iintro ⟨Hr, Hx⟩
    isplitl [Hx]; · iexact Hx
    iapply ih; iexact Hr

/-- Six barrier credits are one of six. -/
theorem cred_six (g : GSem nD τ sig) : bigSepL sigL (fun _ => (cred (tallyAt g () 1) : sProp 𝕄)) ⊢ cred (tallyAt g () 6) := by
  have h (a b : ℕ) : iprop(cred (tallyAt g () a) ∗ cred (tallyAt g () b)) ⊢ (cred (tallyAt g () (a + b)) : sProp 𝕄) := by
    rw [← tallyAt_add]; exact (cred_add _ _).2
  simp only [bigSepL_cons', bigSepL_nil]
  iintro ⟨H1, H2, H3, H4, H5, H6, -⟩
  iapply (h 5 1); isplitr [H6]
  · iapply (h 4 1); isplitr [H5]
    · iapply (h 3 1); isplitr [H4]
      · iapply (h 2 1); isplitr [H3]
        · iapply (h 1 1); isplitl [H1] <;> iassumption
        iexact H3
      iexact H4
    iexact H5
  iexact H6

/-- Device `c`'s credits at launch. -/
theorem creds (c : Dev nD) :
    (Pipeline.launchCred (fun d => tl (dues d)) c : sProp 𝕄) ⊢ iprop(cred (tallyAt (cell c kBar) () 6)
      ∗ bigSepL ks (fun k => cred (tallyAt (cell c (kRcv 0 k)) () (kamt (kRcv 0 k)))) ∗ bigSepL ks (fun k => cred (tallyAt (cell c (kRcv 1 k)) () (kamt (kRcv 1 k))))
      ∗ bigSepL ks (fun k => cred (tallyAt (cell c (kRcv 2 k)) () (kamt (kRcv 2 k)))) ∗ bigSepL ks (fun k => cred (tallyAt (cell c (kRcv 3 k)) () (kamt (kRcv 3 k))))
      ∗ bigSepL ks2 (fun k => cred (tallyAt (cell c (kRcv2 k)) () (kamt (kRcv2 k))))) := by
  rw [Pipeline.launchCred_of_sum (fun d => tl (dues d)) (fun d => tl (sites.map fun s => (d, s.2)))
    (by simp only [dues_sites]; exact sum_sites sites)
    (fun d g hg => by
      obtain ⟨u, hu⟩ := DFunLike.ne_iff.mp hg
      obtain ⟨x, hx, rfl⟩ := tl_pos _ g u (Nat.pos_of_ne_zero hu)
      obtain ⟨s, -, rfl⟩ := List.mem_map.mp hx
      rfl) c]
  refine (cred_tl _).trans ?_
  unfold sites
  simp only [List.map_append, List.map_map, bigSepL_append, bigSepL_map]
  exact sep_mono_left (cred_six (cell c kBar))

end Cert.Talk

end
-- ==== Proof.Run.lean ====
/-
# The run

The body's start is assembled from the launch (`pre_intro`), its end taken apart (`post_elim`), and the launch theorem
gives the run of the whole mesh (`run_main`): the result, the arguments and the semaphores at the end.
-/
module

public import proofs.«01_k».proof.Proof.Ghost
public import Idealize.ShloMosaic.Lib.Pipeline.CollectiveSegs

@[expose] public section

set_option maxRecDepth 8192

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Buffers whole and in parts -/

/-- A whole buffer, as a view. -/
theorem whole_own (c : Dev nD) (b : Ref sig .tc) (q : PosShare TreeShare) (f : Buf (Elt F) ((c : Thread nD τ).loc b)) :
    (own c (Memref.whole b).view q f : sProp 𝕄) = (((c : Thread nD τ).loc b) ↦{q} f) := by
  unfold own; simp only [Memref.view_whole, View.set_whole]

/-- A whole buffer at some contents, as a view. -/
theorem whole_some (c : Dev nD) (b : Ref sig .tc) :
    iprop(∃ f : Buf (Elt F) ((c : Thread nD τ).loc b), ((c : Thread nD τ).loc b) ↦{fullShare} f) ⊢ (some' c (Memref.whole b).view : sProp 𝕄) := by
  unfold some'
  iintro ⟨%f, H⟩
  iexists f
  iapply (Entails.of_eq (whole_own c b fullShare f).symm); iexact H

/-- A view of a whole buffer, as the buffer at some contents. -/
theorem whole_forget (c : Dev nD) (b : Ref sig .tc) (f : Buf (Elt F) ((c : Thread nD τ).loc b)) :
    (own c (Memref.whole b).view fullShare f : sProp 𝕄) ⊢ iprop(∃ f : Buf (Elt F) ((c : Thread nD τ).loc b), ((c : Thread nD τ).loc b) ↦{fullShare} f) := by
  iintro H
  iexists f
  iapply (Entails.of_eq (whole_own c b fullShare f)); iexact H

/-- An exchange buffer, its slot 0 and the slots of the partners. -/
theorem slots_some (st : Fin 4) (c : Dev nD) :
    (some' c (commM st).view : sProp 𝕄) ⊢ iprop(some' c (slotM (commM st) 0).view ∗ bigSepL ks fun k => some' c (slotM (commM st) k).view) := by
  have h (f : (commM st).view.ty.Contents (Elt F)) : (own c (commM st).view fullShare f : sProp 𝕄)
      ⊢ iprop(some' c (slotM (commM st) 0).view ∗ bigSepL ks fun k => some' c (slotM (commM st) k).view) := by
    rw [slots_eq, ← sep4 fun k => (some' c (slotM (commM st) k).view : sProp 𝕄)]
    have hk (k : Fin 4) : (own c (slotM (commM st) k).view fullShare f : sProp 𝕄) ⊢ some' c (slotM (commM st) k).view := by
      unfold some'; iintro H; iexists f; iexact H
    exact bigSep_mono fun k _ => hk k
  iintro H
  unfold some' at *
  icases H with ⟨%f, H⟩
  iapply (h f); iexact H

/-- The slots a device hands its partners at the barrier. -/
theorem bar_give (c : Dev nD) :
    iprop(bigSepL ks (fun k => some' c (slotM (commM 0) k).view) ∗ bigSepL ks (fun k => some' c (slotM (commM 1) k).view)
      ∗ bigSepL ks (fun k => some' c (slotM (commM 2) k).view) ∗ bigSepL ks (fun k => some' c (slotM (commM 3) k).view))
      ⊢ (bigSepL sigL (fun i => barPay (peer i.1 i.2 c) (i.1, -i.2)) : sProp 𝕄) := by
  have h : ∀ i : D, barPay (F := F) (peer i.1 i.2 c) (i.1, -i.2)
      = iprop(some' c (slotM (commM i.1) (-i.2)).view ∗ some' c (slotM (commM (i.1 + 2)) (-i.2)).view) := fun i => by
    unfold barPay; dsimp only; rw [neg_peer]
  simp only [h, ks, bigSepL_cons', bigSepL_nil]
  iintro ⟨⟨A1, A2, A3, -⟩, ⟨B1, B2, B3, -⟩, ⟨C1, C2, C3, -⟩, ⟨D1, D2, D3, -⟩⟩
  isplitl [A3 C3]; · isplitl [A3]; · iexact A3
                     iexact C3
  isplitl [B3 D3]; · isplitl [B3]; · iexact B3
                     iexact D3
  isplitl [A2 C2]; · isplitl [A2]; · iexact A2
                     iexact C2
  isplitl [B2 D2]; · isplitl [B2]; · iexact B2
                     iexact D2
  isplitl [A1 C1]; · isplitl [A1]; · iexact A1
                     iexact C1
  isplitl [B1 D1]; · isplitl [B1]; · iexact B1
                     iexact D1
  iempintro

/-! ## The pipeline's data -/

/-- The arguments at the caller's contents. -/
def args (c : Dev nD) : sProp 𝕄 :=
  bigSepL insL fun i => own c (inSrc i).view fullShare (m (View.loc (c : Thread nD τ) (inSrc i).view))

/-- A device's credits at launch. -/
def credsAt (c : Dev nD) : sProp 𝕄 :=
  iprop(cred (tallyAt (cell c kBar) () 6)
      ∗ bigSepL ks (fun k => cred (tallyAt (cell c (kRcv 0 k)) () (kamt (kRcv 0 k)))) ∗ bigSepL ks (fun k => cred (tallyAt (cell c (kRcv 1 k)) () (kamt (kRcv 1 k))))
      ∗ bigSepL ks (fun k => cred (tallyAt (cell c (kRcv 2 k)) () (kamt (kRcv 2 k)))) ∗ bigSepL ks (fun k => cred (tallyAt (cell c (kRcv 3 k)) () (kamt (kRcv 3 k))))
      ∗ bigSepL ks2 (fun k => cred (tallyAt (cell c (kRcv2 k)) () (kamt (kRcv2 k)))))

/-- What a device starts from, but for its scratch buffers. -/
def start (c : Dev nD) : sProp 𝕄 :=
  iprop((∃ K, recs m K ∗ (bigSep Finset.univ fun κ : Key => atPos ER (cell c κ) 0 ∅ 0) ∗ payToks c) ∗ credsAt c ∗ args m c)

/-- Before the body. -/
def Φ₀ (c : Dev nD) : sProp 𝕄 := iprop(start m c ∗ Pipeline.scopedRest cfg0.spec c)

/-- After it. -/
def Φ₁ (c : Dev nD) : sProp 𝕄 :=
  iprop((unscopedSems0 c ∗ args m c) ∗ Pipeline.ownSems0 osem c ∗ Pipeline.scopedRest cfg0.spec c)

/-- The pipeline's data on device `c`: the arrays at launch, the result the point leaves, and what holds before and after it. -/
def dats (_ : Fin 1) (c : Dev nD) : Pipeline.Dat τ (Elt F) Unit ℕ UU ℕ cfg0 c where
  A w := m ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => tl (dues c)
    | ⟨_ + 1, _⟩ => 0

/-! ## The body's start and end -/

/-- Tickets of one exchange, paired. -/
theorem pair_toks {I : Type} (l : List I) (Φ Ψ : I → sProp 𝕄) :
    iprop(bigSepL l Φ ∗ bigSepL l Ψ) ⊢ bigSepL l fun i => iprop(Φ i ∗ Ψ i) := (sepL_sep l Φ Ψ).2

/-- The arguments and where the kernel reads them, paired with the copies' tickets. -/
theorem ins_pre (c : Dev nD) :
    iprop(args m c ∗ bigSepL insL (fun i => some' c (inDst i).view) ∗ bigSepL insL (fun i => dutyTok ER (cell c (kIn i)) 0 (0, 0)))
      ⊢ bigSepL insL (fun i => iprop(own c (inSrc i).view fullShare (m (View.loc (c : Thread nD τ) (inSrc i).view))
        ∗ some' c (inDst i).view ∗ dutyTok ER (cell c (kIn i)) 0 (0, 0))) := by
  unfold args
  iintro ⟨Ha, Hb, Hc⟩
  iapply (sepL_sep insL _ _).2
  isplitl [Ha]; · iexact Ha
  iapply (sepL_sep insL _ _).2
  isplitl [Hb] <;> iassumption

/-- The scratch buffers, by the views the body reads them through. -/
theorem scratch_views (c : Dev nD) :
    (Pipeline.scopedRest (Ix := Unit) (Name := ℕ) (U := UU) (Lvl := ℕ) (Val := Elt F) cfg0.spec c : sProp 𝕄)
      ⊢ iprop(some' c p2M.view ∗ (some' c (commM 0).view ∗ some' c (commM 1).view ∗ some' c (commM 2).view ∗ some' c (commM 3).view)
        ∗ some' c c2M.view ∗ bigSepL insL (fun i => some' c (inDst i).view)) := by
  have h := scopedRest0_eq (Ix := Unit) (Val := Elt F) (Name := ℕ) (U := UU) (Lvl := ℕ) c
  refine (Entails.of_eq h).trans ?_
  simp only [insL, List.cons_append, List.nil_append, bigSepL_cons', bigSepL_nil]
  iintro ⟨H0, H1, H2, H3, H4, H5, H6, H7, H8, H9, H10, H11, H12⟩
  isplitl [H0]; · iapply (whole_some c cc0_scratch0); iexact H0
  isplitl [H1 H2 H3 H4]
  · isplitl [H1]; · iapply (whole_some c cc0_scratch1); iexact H1
    isplitl [H2]; · iapply (whole_some c cc0_scratch2); iexact H2
    isplitl [H3]; · iapply (whole_some c cc0_scratch3); iexact H3
    iapply (whole_some c cc0_scratch4); iexact H4
  isplitl [H5]; · iapply (whole_some c cc0_scratch5); iexact H5
  isplitl [H6]; · iapply (whole_some c cc0_scratch6); iexact H6
  isplitl [H7]; · iapply (whole_some c cc0_scratch7); iexact H7
  isplitl [H8]; · iapply (whole_some c cc0_scratch8); iexact H8
  isplitl [H9]; · iapply (whole_some c cc0_scratch9); iexact H9
  isplitl [H10]; · iapply (whole_some c cc0_scratch10); iexact H10
  isplitl [H11]; · iapply (whole_some c cc0_scratch11); iexact H11
  isplitl [H12]; · iapply (whole_some c cc0_scratch12); iexact H12
  iempintro

/-- And back. -/
theorem views_scratch (c : Dev nD) :
    iprop(own c p2M.view fullShare (prodRep m c)
        ∗ (own c (commM 0).view fullShare (stRep m 0 c) ∗ own c (commM 1).view fullShare (stRep m 1 c)
          ∗ own c (commM 2).view fullShare (stRep m 2 c) ∗ own c (commM 3).view fullShare (stRep m 3 c))
        ∗ own c c2M.view fullShare (landRep m c) ∗ bigSepL insL (fun i => own c (inDst i).view fullShare (inRep m c i)))
      ⊢ (Pipeline.scopedRest (Ix := Unit) (Name := ℕ) (U := UU) (Lvl := ℕ) (Val := Elt F) cfg0.spec c : sProp 𝕄) := by
  have h := scopedRest0_eq (Ix := Unit) (Val := Elt F) (Name := ℕ) (U := UU) (Lvl := ℕ) c
  simp only [insL, List.cons_append, List.nil_append, bigSepL_cons', bigSepL_nil]
  iintro ⟨H0, ⟨H1, H2, H3, H4⟩, H5, H6, H7, H8, H9, H10, H11, H12, -⟩
  iapply (Entails.of_eq h.symm)
  isplitl [H0]; · iapply (whole_forget c cc0_scratch0); iexact H0
  isplitl [H1]; · iapply (whole_forget c cc0_scratch1); iexact H1
  isplitl [H2]; · iapply (whole_forget c cc0_scratch2); iexact H2
  isplitl [H3]; · iapply (whole_forget c cc0_scratch3); iexact H3
  isplitl [H4]; · iapply (whole_forget c cc0_scratch4); iexact H4
  isplitl [H5]; · iapply (whole_forget c cc0_scratch5); iexact H5
  isplitl [H6]; · iapply (whole_forget c cc0_scratch6); iexact H6
  isplitl [H7]; · iapply (whole_forget c cc0_scratch7); iexact H7
  isplitl [H8]; · iapply (whole_forget c cc0_scratch8); iexact H8
  isplitl [H9]; · iapply (whole_forget c cc0_scratch9); iexact H9
  isplitl [H10]; · iapply (whole_forget c cc0_scratch10); iexact H10
  isplitl [H11]; · iapply (whole_forget c cc0_scratch11); iexact H11
  iapply (whole_forget c cc0_scratch12); iexact H12

/-- What the body starts from, out of what the device does. -/
theorem pre_intro (c : Dev nD) (mo : Memref sig .tc .vmem S8x128 .f32) :
    iprop((bigSep Finset.univ fun κ : Key => atPos ER (cell c κ) 0 ∅ 0) ∗ payToks c ∗ credsAt c ∗ args m c
      ∗ Pipeline.scopedRest (Ix := Unit) (Name := ℕ) (U := UU) (Lvl := ℕ) (Val := Elt F) cfg0.spec c ∗ some' c mo.view) ⊢ bodyPre m c mo := by
  have hp : (bigSep Finset.univ fun κ : Key => (atPos ER (cell c κ) 0 ∅ 0 : sProp 𝕄))
      ⊢ iprop(atPos ER (cell c kBar) 0 ∅ 0 ∗ bigSepL okeys fun o => atPos ER (cell c (.inr o)) 0 ∅ 0) :=
    Entails.of_eq (by rw [sep_keys, sep_okeys])
  unfold payToks credsAt bodyPre stRes lastRes
  iintro ⟨Hat, ⟨Tb, Ti, ⟨⟨S0, R0⟩, ⟨S1, R1⟩, ⟨S2, R2⟩, ⟨S3, R3⟩⟩, S4, R4⟩, ⟨Cb, C0, C1, C2, C3, C4⟩, Ha, Hs, Hmo⟩
  ihave Hat := hp $$ Hat
  icases Hat with ⟨Ab, Ao⟩
  ihave Hs := (scratch_views (F := F) c) $$ Hs
  icases Hs with ⟨Hp2, ⟨M0, M1, M2, M3⟩, Hc2, Hd⟩
  ihave M0 := (slots_some 0 c) $$ M0
  icases M0 with ⟨M0, N0⟩
  ihave M1 := (slots_some 1 c) $$ M1
  icases M1 with ⟨M1, N1⟩
  ihave M2 := (slots_some 2 c) $$ M2
  icases M2 with ⟨M2, N2⟩
  ihave M3 := (slots_some 3 c) $$ M3
  icases M3 with ⟨M3, N3⟩
  isplitl [N0 N1 N2 N3 Tb]
  · iapply (sepL_sep sigL _ _).2
    isplitr [Tb]
    · iapply (bar_give (F := F) c)
      isplitl [N0]; · iexact N0
      isplitl [N1]; · iexact N1
      isplitl [N2] <;> iassumption
    iexact Tb
  isplitl [Ha Hd Ti]
  · iapply (ins_pre m c)
    isplitl [Ha]; · iexact Ha
    isplitl [Hd] <;> iassumption
  isplitl [Cb Ab]; · isplitl [Cb] <;> iassumption
  isplitl [Ao]; · iexact Ao
  isplitl [M0 M1 M2 M3 S0 R0 S1 R1 S2 R2 S3 R3 C0 C1 C2 C3]
  · isplitl [M0 S0 R0 C0]
    · isplitl [M0]; · iexact M0
      isplitl [S0 R0]; · iapply (pair_toks ks _ _); isplitl [S0] <;> iassumption
      iexact C0
    isplitl [M1 S1 R1 C1]
    · isplitl [M1]; · iexact M1
      isplitl [S1 R1]; · iapply (pair_toks ks _ _); isplitl [S1] <;> iassumption
      iexact C1
    isplitl [M2 S2 R2 C2]
    · isplitl [M2]; · iexact M2
      isplitl [S2 R2]; · iapply (pair_toks ks _ _); isplitl [S2] <;> iassumption
      iexact C2
    isplitl [M3]; · iexact M3
    isplitl [S3 R3]; · iapply (pair_toks ks _ _); isplitl [S3] <;> iassumption
    iexact C3
  isplitl [Hc2]; · iexact Hc2
  isplitl [Hp2]; · iexact Hp2
  isplitl [Hmo]; · iexact Hmo
  isplitl [S4 R4]; · iapply (pair_toks ks2 _ _); isplitl [S4] <;> iassumption
  iexact C4

/-- What the body ends with, as the launch takes it. -/
theorem post_elim (c : Dev nD) (mo : Memref sig .tc .vmem S8x128 .f32) :
    bodyPost m c mo ⊢ iprop(Φ₁ m c ∗ ∃ g, ⌜mo.view.read (Elt F) g = outAt m c⌝ ∗ own c mo.view fullShare g) := by
  unfold bodyPost Φ₁ args
  iintro ⟨Hi, HM, Hp, Hl, Ho, Hb, Hs⟩
  ihave Hi := (sepL_sep insL _ _).1 $$ Hi
  icases Hi with ⟨Hd, Ha⟩
  isplitr [Ho]
  · isplitl [Ha Hb]
    · isplitl [Hb]
      · iapply (Entails.of_eq (unscoped_eq (F := F) c).symm); iexact Hb
      iexact Ha
    isplitl [Hs]
    · unfold Pipeline.ownSems0
      iapply (Entails.of_eq (sep_okeys fun o => (semVal (cell c (.inr o)) 0 : sProp 𝕄)).symm); iexact Hs
    iapply (views_scratch m c)
    isplitl [Hp]; · iexact Hp
    isplitl [HM]; · iexact HM
    isplitl [Hl] <;> iassumption
  iexact Ho

/-! ## The body's obligation -/

/-- What the staging buffer holds at the body's start and end, with the rest. -/
theorem obligation_aux (c : Dev nD) (mo : Memref sig .tc .vmem S8x128 .f32) {A : Type} (X : A → Vec F S8x128 .f32) :
    iprop(Φ₀ m c ∗ (dats m 0 c).owesAt () t0_0.castSucc ∗ (∃ d, owns (c : Thread nD τ) mo fullShare (X d)))
      ⊢ WP c (prog (F := F) mo) fun _ =>
        iprop(Φ₁ m c ∗ (dats m 0 c).owesAt () t0_0.succ ∗ owns (c : Thread nD τ) mo fullShare (outAt m c)) := by
  unfold Φ₀ start Pipeline.Dat.owesAt Pipeline.owesWithin owns
  rw [show (dats m 0 c).owed t0_0.castSucc = tl (dues c) from rfl, show (dats m 0 c).owed t0_0.succ = 0 from rfl]
  iintro ⟨⟨⟨⟨%K, #HR, Hat, Ht⟩, Hc, Ha⟩, Hs⟩, ⟨%W, %hW, HO⟩, ⟨%d, %f, -, Hmo⟩⟩
  iapply (wp_body m K c mo _)
  isplitr; · iexact HR
  isplitl [Hat Ht Hc Ha Hs Hmo]
  · iapply (pre_intro m c mo)
    isplitl [Hat]; · iexact Hat
    isplitl [Ht]; · iexact Ht
    isplitl [Hc]; · iexact Hc
    isplitl [Ha]; · iexact Ha
    isplitl [Hs]; · iexact Hs
    unfold some' own; iexists f; iexact Hmo
  isplitl [HO]
  · unfold owing; iexists W; iexact HO
  iintro ⟨Hp, HO⟩
  ihave Hp := (post_elim m c mo) $$ Hp
  icases Hp with ⟨HΦ, ⟨%g, %hg, Hmo⟩⟩
  unfold owing
  icases HO with ⟨%W', HO⟩
  isplitl [HΦ]; · iexact HΦ
  isplitl [HO]
  · iexists W'
    isplitr; · ipureintro; exact fun _ _ => Or.inl trivial
    iexact HO
  iexists g
  isplitr; · ipureintro; exact hg
  unfold own; iexact Hmo

/-- The library's body obligation on device `c`. -/
theorem body_obligation (c : Dev nD) : Pipeline.BodyObligation (dats (F := F) m 0 c) (defs₀ (F := F)) 𝒱₀ () Set.univ := fun t => by
  rw [fin_N0 t]
  rw [bigSep_W0, bigSep_W0]
  show _ ⊢ wp frame (wpE (defs₀ (F := F)) 𝒱₀ (c : Thread nD τ) none) Set.univ (bodyAt0 (F := F) t0_0) _
  rw [body_eq_prog]
  exact obligation_aux m c (win0_0.stage (cfg0.slots t0_0 0)) ((dats m 0 c).before 0 t0_0)

/-! ## The launch -/

/-- The listed semaphores are exactly the kernel's own. -/
theorem ownSemFacts : Pipeline.OwnSemFacts cfg0.spec osem := by decide +kernel

/-- The result window is held whole. -/
theorem share_eq (c : Dev nD) (w : Fin cfg0.W) : (dats m 0 c).share w = fullShare := by unfold Pipeline.Dat.share; split <;> rfl

/-- What the launch leaves a device to start from. -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred (fun d => tl (dues d)) c ∗ prngReg c (ρ c) ∗ G' m c)
      ⊢ |={Set.univ}=> iprop(start m c ∗ emp) := by
  have h := unscopedRest0_eq (Ix := Unit) (Val := Elt F) (Name := ℕ) (U := UU) (Lvl := ℕ) c (fun b => m ((c : Thread nD τ).loc b))
  rw [Pipeline.unscopedRestP_none]
  unfold G'
  iintro ⟨Ha, #Hlev, Hcr, -, ⟨%K, HI, Hat, Ht⟩⟩
  ihave Ha := (Entails.of_eq h) $$ Ha
  icases Ha with ⟨A0, A1, A2, A3, A4, A5, A6⟩
  ihave Hc := (creds (F := F) c) $$ Hcr
  imodintro
  unfold start args credsAt recs invs
  simp only [insL, List.cons_append, List.nil_append, bigSepL_cons', bigSepL_nil]
  isplitl
  · isplitl [HI Hat Ht]
    · iexists K
      icases HI with ⟨HI, Hr⟩
      isplitl [HI Hr]
      · isplitl [HI]; · iexact HI
        isplitl [Hr]; · iexact Hr
        iexact Hlev
      isplitl [Hat] <;> iassumption
    isplitl [Hc]; · iexact Hc
    isplitl [A0]; · iapply (Entails.of_eq (whole_own c main_arg0 fullShare _).symm); iexact A0
    isplitl [A1]; · iapply (Entails.of_eq (whole_own c main_arg1 fullShare _).symm); iexact A1
    isplitl [A2]; · iapply (Entails.of_eq (whole_own c main_arg2 fullShare _).symm); iexact A2
    isplitl [A3]; · iapply (Entails.of_eq (whole_own c main_arg3 fullShare _).symm); iexact A3
    isplitl [A4]; · iapply (Entails.of_eq (whole_own c main_arg4 fullShare _).symm); iexact A4
    isplitl [A5]; · iapply (Entails.of_eq (whole_own c main_arg5 fullShare _).symm); iexact A5
    isplitl [A6]; · iapply (Entails.of_eq (whole_own c main_arg6 fullShare _).symm); iexact A6
    iempintro
  · iempintro

/-- What a device starts from holds before the point. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

/-- What holds after the point is what the launch takes back. -/
theorem phi1_exit (c : Dev nD) :
    (dats m 0 c).Φ (Fin.last cfg0.N) ⊢ iprop((unscopedSems0 c ∗ args m c) ∗ Pipeline.ownSems0 osem c ∗ Pipeline.scopedRest cfg0.spec c) := by
  rw [show (dats m 0 c).Φ (Fin.last cfg0.N) = Φ₁ m c from rfl]
  unfold Φ₁
  iintro H; iexact H

/-- No semaphore of the schedule is the pipeline's own. -/
theorem stage_dec (w : Fin cfg0.W) (s : Fin (cfg0.win w).nbuf) (κ : Key) : ksem κ ≠ .dma ((cfg0.win w).sem s) := by
  fin_cases w; fin_cases s
  exact (by decide +kernel : ∀ κ : Key, ksem κ ≠ .dma ((cfg0.win 0).sem 0)) κ

/-- The pipeline's own waits come below everything owed. -/
theorem waits (c : Dev nD) : (levAts L lv : sProp 𝕄) ⊢ Pipeline.cellsWaits cfgs (dats m) () 0 c :=
  Pipeline.cellsWaits_intro cfgs (dats m) () 0 c fun w s t => by
    have h0 : lv ((c : Thread nD τ), .dma ((cfg0.win w).sem s)) () = 0 := by unfold lv; rw [dec_none (stage_dec w s)]; rfl
    obtain ⟨l4, l3, l2, l1, l0⟩ := lev_from c
    rcases t with ⟨_ | _, ht⟩
    · refine mayWait_of c _ 0 h0 (dues c) fun x hx => ?_
      rcases List.mem_append.mp hx with hx | hx
      · obtain ⟨i, -, rfl⟩ := List.mem_map.mp hx
        exact Nat.zero_lt_one
      · exact lt_trans Nat.zero_lt_one (l0 x hx)
    · exact mayWait_of c _ 0 h0 [] fun x hx => absurd hx (List.not_mem_nil)

/-! ## The run -/

/-- What the run ends with: the result as written back, and the arguments. -/
def QC : PUnit × MemSt nD τ sig (Elt F) → Prop := fun r =>
  ∀ c : Dev nD, r.2.mem (win0_0.arr.view.loc (c : Thread nD τ)) = (dats m 0 c).arrAt 0 cfg0.N
    ∧ ∀ i ∈ insL, r.2.mem (View.loc (c : Thread nD τ) (inSrc i).view) = m (View.loc (c : Thread nD τ) (inSrc i).view)

/-- An argument's view is of all its elements. -/
theorem src_set : ∀ i : Fin 7, (inSrc i).view.set = Finset.univ
  | 0 => View.set_whole _ | 1 => View.set_whole _ | 2 => View.set_whole _ | 3 => View.set_whole _
  | 4 => View.set_whole _ | 5 => View.set_whole _ | 6 => View.set_whole _

/-- Arguments held at the end are read off the memory. -/
theorem args_read (c : Dev nD) (l : List (Fin 7)) (s' : Phys nD τ sig (Elt F)) :
    iprop(bigSepL l (fun i => own c (inSrc i).view fullShare (m (View.loc (c : Thread nD τ) (inSrc i).view))) ∗ SI s')
      ⊢ (iprop(⌜∀ i ∈ l, s'.mem.mem (View.loc (c : Thread nD τ) (inSrc i).view) = m (View.loc (c : Thread nD τ) (inSrc i).view)⌝ ∗ SI s') : sProp 𝕄) := by
  induction l with
  | nil =>
    iintro ⟨-, H⟩
    isplitr; · ipureintro; exact fun i hi => absurd hi (List.not_mem_nil)
    iexact H
  | cons i r ih =>
    rw [bigSepL_cons']
    iintro ⟨⟨Hi, Hr⟩, HSI⟩
    ihave H := ih $$ [Hr HSI]
    · isplitl [Hr] <;> iassumption
    icases H with ⟨%hr, HSI⟩
    unfold own
    icombine Hi HSI gives %hi
    isplitr
    · ipureintro
      intro j hj
      rcases List.mem_cons.mp hj with rfl | hj
      · refine funext fun k => hi k ?_
        rw [src_set]; exact Finset.mem_univ _
      · exact hr j hj
    iexact HSI

set_option maxRecDepth 8000 in
/-- At the mesh of sixteen devices, for any float values, from any memory with zero counters: every weakly fair execution
    of the kernel terminates, and every final state has each device's result written back, its arguments unchanged and every
    semaphore at zero. -/
theorem run_main (ρ : Dev nD → PrngReg) :
    θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := fun d => tl (dues d)) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ ∀ i ∈ insL, s.mem (View.loc (c : Thread nD τ) (inSrc i).view) = m (View.loc (c : Thread nD τ) (inSrc i).view))
    (hY := fun c s' => by
      iintro ⟨⟨Hu, Ha⟩, -, HSI⟩
      unfold args
      ihave H := (args_read m c insL s') $$ [Ha HSI]
      · isplitl [Ha] <;> iassumption
      icases H with ⟨%ha, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, ha⟩
      iexact HSI)
    (hQ := fun _ h hs => ⟨fun c => ⟨(h c).1 0, (h c).2.2.2⟩, sem_eq_zero hs fun c => (h c).2.2.1⟩)

/-- The result array at the end is the kernel's value. -/
theorem final_out (c : Dev nD) : (win0_0.blk (0 : Fin 1)).view.read (Elt F) ((dats m 0 c).arrAt 0 cfg0.N) = outAt m c := by
  rw [show cfg0.N = ((0 : Fin 1) : Fin cfg0.N).val + 1 from rfl, (dats m 0 c).arrAt_succ (0 : Fin 1) (0 : Fin 1)]
  rw [show (cfg0.win (0 : Fin 1)).flush (0 : Fin 1) = true from by decide, if_pos rfl]
  exact View.read_write_univ _ _

end Cert.Talk

end
-- ==== Proof.Frames.lean ====
/-
# The frame claims

Each program terminates, leaves its arguments as they were and its semaphores at zero. The kernel as printed and the kernel
read over the extended reals are one text, so one run (`run_main`) serves both.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

set_option maxRecDepth 65536

noncomputable section

namespace Cert.Talk

open Idealize.ShloMosaic Idealize.ShloMosaic.TcCoe Idealize.SL.Sem

/-- The kernel over the extended reals: it terminates, its arguments and semaphores as they were. -/
theorem frame_ideal : Cert.quiescent_KernelIdeal := fun m ρ _ =>
  (θ_run Cert.KernelIdeal.defs _ _).mono
    (fun _ h => ⟨fun c => ⟨(h.1 c).2 0 (by decide), (h.1 c).2 1 (by decide), (h.1 c).2 2 (by decide), (h.1 c).2 3 (by decide),
      (h.1 c).2 4 (by decide), (h.1 c).2 5 (by decide), (h.1 c).2 6 (by decide)⟩, h.2⟩)
    (run_main (F := Ideal) m ρ)

/-- The printed kernel's body table is the ideal kernel's: one body, its text the same in both. -/
theorem body_table : Cert.Kernel.defs₀ (F := Bits) = Cert.KernelIdeal.defs₀ (F := Bits) := by
  unfold Cert.Kernel.defs₀ Cert.KernelIdeal.defs₀
  refine congrArg _ ?_
  funext l a
  obtain ⟨l, hl⟩ := l
  match l, hl, a with
  | 0, _, (t, s) => rfl

/-- So the two programs' tables are one. -/
theorem table : Cert.Kernel.defs (F := Bits) = Cert.KernelIdeal.defs (F := Bits) := by
  show Pipeline.defs _ Cert.Kernel.defs₀ = Pipeline.defs _ Cert.KernelIdeal.defs₀
  rw [body_table]

/-- The kernel as printed: the same text, read bit by bit. -/
theorem frame_kernel : Cert.quiescent_Kernel := fun m ρ _ => by
  rw [table]
  exact (θ_run Cert.KernelIdeal.defs _ _).mono
    (fun _ h => ⟨fun c => ⟨(h.1 c).2 0 (by decide), (h.1 c).2 1 (by decide), (h.1 c).2 2 (by decide), (h.1 c).2 3 (by decide),
      (h.1 c).2 4 (by decide), (h.1 c).2 5 (by decide), (h.1 c).2 6 (by decide)⟩, h.2⟩)
    (run_main (F := Bits) m ρ)

/-- The reference: its operations write no argument, and it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Talk

end
-- ==== Proof.Layers.lean ====
/-
# A layer over the extended reals

One layer, `relu(x @ win) @ wout`, as a sum over its hidden width (`layer`); the kernel's payloads and the reference's
products are layers; and a layer of width 4096 is the sum over the sixteen devices of the layers of width 256 that their
blocks of the weights make.
-/
module

public import proofs.«01_k».proof.Proof.Sched
public import proofs.«01_k».proof.Proof.Gen.KernelIdeal.Skeleton
public import proofs.«01_k».proof.Proof.Gen.ReferenceIdeal
public import Idealize.ShloMosaic.Lib.MatmulPlain
public import Idealize.ShloMosaic.Lib.StackMember
public import Idealize.ShloMosaic.Lib.ValueIdx
public import Idealize.ShloMosaic.Lib.Layout
public import Idealize.ShloMosaic.Lib.Pipeline.Value

@[expose] public section

noncomputable section

namespace Cert.Talk

open Cert.KernelIdeal Cert.KernelIdeal.Gen
open Idealize.ShloMosaic Idealize.ShloMosaic.ValueIdx Idealize.ShloMosaic.StackMember
open scoped BigOperators

/-- A matrix of extended reals. -/
abbrev Mat (r c : Nat) : Type := (⟨2, ![r, c]⟩ : Shape).Idx → EReal

/-- One layer of hidden width `H`: `relu(x @ win) @ wout`. -/
def layer (H : Nat) (x : Mat 128 128) (win : Mat 128 H) (wout : Mat H 128) : Mat 128 128 := fun p =>
  ∑ k : Fin H, max (∑ l : Fin 128, x (ix2 (p 0) l) * win (ix2 l k)) 0 * wout (ix2 k (p 1))

/-! ## The kernel's payloads -/

/-- The one slot of a value as it is sent, as a matrix. -/
def flat (v : FVec Ideal S1x128x128 .bf16) : Mat 128 128 := fun p => v (ix3 0 (p 0) (p 1))

/-- The kernel's first product: over the reals, the matrix unit's product into zeros is the plain sum. -/
theorem mm_in (x : FVec Ideal S128x128 .bf16) (w : FVec Ideal S128x256 .bf16) (r : Fin 128) (k : Fin 256) :
    matmul dot_S128x128_S128x256_S128x256_1_0_0_1_n_n none x w (constant S128x256 .f32 0x00000000#32) (ix2 r k)
      = ∑ l : Fin 128, x (ix2 r l) * w (ix2 l k) := by
  refine (Ideal.matmul_plain_apply none x w _ r k).trans ?_
  rw [constant_apply, Ideal.ofBits_zero_f32, zero_add]

/-- The kernel's second product. -/
theorem mm_out (h : FVec Ideal S128x256 .bf16) (w : FVec Ideal S256x128 .bf16) (r : Fin 128) (c : Fin 128) :
    matmul dot_S128x256_S256x128_S128x128_1_0_0_1_n_n none h w (constant S128x128 .f32 0x00000000#32) (ix2 r c)
      = ∑ k : Fin 256, h (ix2 r k) * w (ix2 k c) := by
  refine (Ideal.matmul_plain_apply none h w _ r c).trans ?_
  rw [constant_apply, Ideal.ofBits_zero_f32, zero_add]

/-- The layer as the kernel writes it on one device is `layer` of width 256. -/
theorem mm_layer (x : FVec Ideal S128x128 .bf16) (w : FVec Ideal S128x256 .bf16) (v : FVec Ideal S256x128 .bf16) :
    matmul dot_S128x256_S256x128_S128x128_1_0_0_1_n_n none
      (truncf .bf16 (maximumf (matmul dot_S128x128_S128x256_S128x256_1_0_0_1_n_n none x w (constant S128x256 .f32 0x00000000#32))
        (broadcast S128x256 (Scalar.ofBits .f32 0x00000000#32))) bitsLt_bf16_f32) v (constant S128x128 .f32 0x00000000#32)
      = layer 256 x w v := by
  funext p
  obtain ⟨i, j, rfl⟩ : ∃ (i j : Fin 128), p = ix2 i j := ⟨p 0, p 1, eq_ix2 p⟩
  refine (mm_out _ v i j).trans ?_
  refine Finset.sum_congr rfl fun k _ => ?_
  rw [truncf_apply, maximumf_apply, mm_in]
  have hz : (broadcast S128x256 (Scalar.ofBits (F := Ideal) .f32 0x00000000#32)) (ix2 i k) = 0 := Ideal.ofBits_zero_f32
  rw [hz]

/-- Adding the slot axis leaves the matrix. -/
theorem flat_cast (x : FVec Ideal S128x128 .bf16) : flat (shapeCast S1x128x128 x shapeCasts_S128x128_S1x128x128) = x := by
  funext p
  refine (shapeCast_addUnit_apply (n := 2) ![128, 128] x shapeCasts_S128x128_S1x128x128 (ix3 0 (p 0) (p 1))).trans (congrArg x ?_)
  funext a; match a with | ⟨0, _⟩ => rfl | ⟨1, _⟩ => rfl

/-- The first layer's part on one device. -/
theorem pay2_flat (x : FVec Ideal S128x128 .f32) (w : FVec Ideal S128x256 .f32) (v : FVec Ideal S256x128 .f32) :
    flat (k0_pay2 (F := Ideal) x w v) = layer 256 x w v :=
  (flat_cast _).trans (mm_layer x w v)

/-- The sum over the four slots of an exchange. -/
theorem pay3_sum (g : FVec Ideal S4x128x128 .bf16) (p : S128x128.Idx) :
    k0_pay3 (F := Ideal) g p = ∑ k : Fin 4, g (ix3 k (p 0) (p 1)) := by
  refine (Ideal.multiReduction_add_single (φ := .f32) (a := (0 : Fin 3)) (extf .f32 g bitsLt_bf16_f32) 0x00000000#32 reduces_S4x128x128_S128x128 (.inl rfl) rfl p).trans ?_
  refine Finset.sum_congr rfl fun k _ => congrArg g ?_
  funext a; match a with | ⟨0, _⟩ => rfl | ⟨1, _⟩ => rfl | ⟨2, _⟩ => rfl

/-- What is sent on is that sum. -/
theorem pay4_flat (x : FVec Ideal S128x128 .bf16) : flat (k0_pay4 (F := Ideal) x) = x := flat_cast x

/-- The second layer's part on one device, from the slots' sum. -/
theorem pay5_flat (g : FVec Ideal S4x128x128 .bf16) (w : FVec Ideal S128x256 .f32) (v : FVec Ideal S256x128 .f32) :
    flat (k0_pay5 (F := Ideal) g w v) = layer 256 (k0_pay3 (F := Ideal) g) w v :=
  (flat_cast _).trans (mm_layer (k0_pay3 (F := Ideal) g) w v)

/-- The second layer's slots' sum, sent on. -/
theorem pay6_flat (g : FVec Ideal S4x128x128 .bf16) : flat (k0_pay6 (F := Ideal) g) = k0_pay3 (F := Ideal) g := flat_cast (k0_pay3 (F := Ideal) g)

/-- The last layer's part on one device. -/
theorem pay7_layer (g : FVec Ideal S4x128x128 .bf16) (w : FVec Ideal S128x256 .f32) (v : FVec Ideal S256x128 .f32) :
    k0_pay8 (F := Ideal) (k0_pay7 (F := Ideal) g w v) = layer 256 (k0_pay3 (F := Ideal) g) w v :=
  (shapeCast_self _ _).trans (mm_layer (k0_pay3 (F := Ideal) g) w v)

/-- The result's sum over the sixteen slots. -/
theorem pay1_sum (g : FVec Ideal S16x8x128 .f32) (p : S8x128.Idx) :
    k0_pay1 (F := Ideal) g p = ∑ k : Fin 16, g (ix3 k (p 0) (p 1)) := by
  have h := Ideal.multiReduction_add_single (φ := .f32) (a := (0 : Fin 3)) g 0x00000000#32 reduces_S16x8x128_S8x128 (.inl rfl) rfl p
  have h' : ∀ k : Fin 16, (reduces_S16x8x128_S8x128.lift p k : S16x8x128.Idx) = ix3 k (p 0) (p 1) := fun k => by
    funext a; match a with | ⟨0, _⟩ => rfl | ⟨1, _⟩ => rfl | ⟨2, _⟩ => rfl
  have h2 : k0_pay1 (F := Ideal) g p = _ := h
  exact h2.trans (Finset.sum_congr rfl fun k _ => congrArg g (h' k))

/-! ## The reference's products -/

/-- The reference's layer is `layer` of width 4096. -/
theorem host_layer (x : FVec Ideal S128x128 .f32) (w : FVec Ideal Cert.ReferenceIdeal.S128x4096 .f32)
    (v : FVec Ideal Cert.ReferenceIdeal.S4096x128 .f32) :
    Host.dotGeneral Cert.ReferenceIdeal.dot_S128x4096_S4096x128_S128x128_1_0_0_1_n_n none
      (maximumf (Host.dotGeneral Cert.ReferenceIdeal.dot_S128x128_S128x4096_S128x4096_1_0_0_1_n_n none x w)
        (broadcastInDim Cert.ReferenceIdeal.S128x4096 ![] Cert.ReferenceIdeal.Facts₀.bcast_S_S128x4096 (constant Cert.ReferenceIdeal.S_ .f32 0x00000000#32))) v
      = layer 4096 x w v := by
  funext p
  obtain ⟨i, j, rfl⟩ : ∃ (i j : Fin 128), p = ix2 i j := ⟨p 0, p 1, eq_ix2 p⟩
  refine (dotGeneral_plain_apply (m := 128) (n := 128) (k := 4096) none _ v i j).trans ?_
  refine Finset.sum_congr rfl fun k _ => ?_
  rw [maximumf_apply]
  have hd : Host.dotGeneral Cert.ReferenceIdeal.dot_S128x128_S128x4096_S128x4096_1_0_0_1_n_n none x w (ix2 i k)
      = ∑ l : Fin 128, x (ix2 i l) * w (ix2 l k) := dotGeneral_plain_apply (m := 128) (n := 4096) (k := 128) none x w i k
  have hz : (broadcastInDim Cert.ReferenceIdeal.S128x4096 ![] Cert.ReferenceIdeal.Facts₀.bcast_S_S128x4096
      (constant (F := Ideal) Cert.ReferenceIdeal.S_ .f32 0x00000000#32)) (ix2 i k) = 0 := Ideal.ofBits_zero_f32
  rw [hd, hz]

/-! ## Cutting the hidden width over the devices -/

/-- Device `c`'s block of the columns of a layer's first weights. -/
abbrev cols (c : Fin 16) (w : Mat 128 4096) : Mat 128 256 := Layout.block ⟨2, ![128, 256]⟩ ⟨2, ![128, 4096]⟩ 1 16 c w
/-- Device `c`'s block of the rows of its second weights. -/
abbrev rows (c : Fin 16) (v : Mat 4096 128) : Mat 256 128 := Layout.block ⟨2, ![256, 128]⟩ ⟨2, ![4096, 128]⟩ 0 16 c v

/-- A layer is the sum of the devices' parts of it. -/
theorem layer_cut (x : Mat 128 128) (w : Mat 128 4096) (v : Mat 4096 128) (p : S128x128.Idx) :
    ∑ c : Fin 16, layer 256 x (cols c w) (rows c v) p = layer 4096 x w v p := by
  have h := Equiv.sum_comp (finProdFinEquiv (m := 16) (n := 256)) fun k : Fin 4096 =>
    max (∑ l : Fin 128, x (ix2 (p 0) l) * w (ix2 l k)) 0 * v (ix2 k (p 1))
  refine Eq.trans ?_ h
  rw [Fintype.sum_prod_type]
  refine Finset.sum_congr rfl fun c _ => Finset.sum_congr rfl fun k _ => ?_
  have hw : ∀ l : Fin 128, cols c w (ix2 l k) = w (ix2 l (finProdFinEquiv (c, k))) := fun l => congrArg w (by
    funext a; apply Fin.ext
    match a with
    | ⟨0, _⟩ => rfl
    | ⟨1, _⟩ => show c.val * 256 + k.val = k.val + 256 * c.val; omega)
  have hv : rows c v (ix2 k (p 1)) = v (ix2 (finProdFinEquiv (c, k)) (p 1)) := congrArg v (by
    funext a; apply Fin.ext
    match a with
    | ⟨0, _⟩ => show c.val * 256 + k.val = k.val + 256 * c.val; omega
    | ⟨1, _⟩ => rfl)
  rw [hv, Finset.sum_congr rfl fun l _ => congrArg (x (ix2 (p 0) l) * ·) (hw l)]

end Cert.Talk

end
-- ==== Proof.Value.lean ====
/-
# What the kernel computes

Over the extended reals, when the devices hold the blocks of whole weights: after two exchanges every device has the whole
sum over the sixteen devices (`two_exchanges`), so a whole layer (`first`, `second`); and the last exchange leaves device `c`
its eight rows of the last layer (`outAt_eq`).
-/
module

public import proofs.«01_k».proof.Proof.Layers

@[expose] public section

noncomputable section

namespace Cert.Talk

open Cert.KernelIdeal Cert.KernelIdeal.Gen
open Idealize.ShloMosaic Idealize.ShloMosaic.TcCoe Idealize.ShloMosaic.ValueIdx
open scoped BigOperators

/-- The exchange along axis `a` and then the one along `b` go over two different axes of the mesh. -/
def Across (a b : Fin 4) : Prop := (a = 0 ∧ b = 1) ∨ (a = 2 ∧ b = 3)

/-- Stepping back along two axes reaches every device once. -/
theorem two_steps_inj : ∀ (c : Dev nD) (p q : Fin 4 × Fin 4),
    peer 0 (-p.2) (peer 1 (-p.1) c) = peer 0 (-q.2) (peer 1 (-q.1) c) → p = q := by decide +kernel

/-- So a sum over the two steps is the sum over all devices. -/
theorem two_steps_sum (a b : Fin 4) (h : Across a b) (c : Dev nD) (f : Dev nD → EReal) :
    ∑ j : Fin 4, ∑ k : Fin 4, f (peer a (-k) (peer b (-j) c)) = ∑ d : Dev nD, f d := by
  have hab : ∀ j k : Fin 4, peer a (-k) (peer b (-j) c) = peer 0 (-k) (peer 1 (-j) c) := by
    intro j k; rcases h with ⟨rfl, rfl⟩ | ⟨rfl, rfl⟩ <;> rfl
  have hb : Function.Bijective fun p : Fin 4 × Fin 4 => peer 0 (-p.2) (peer 1 (-p.1) c) :=
    (Fintype.bijective_iff_injective_and_card _).mpr ⟨fun p q => two_steps_inj c p q, by decide⟩
  rw [← Function.Bijective.sum_comp hb f, Fintype.sum_prod_type]
  exact Finset.sum_congr rfl fun j _ => Finset.sum_congr rfl fun k _ => congrArg f (hab j k)

/-- The slots' sum after an exchange: the sum of what its four senders sent. -/
theorem slots_sum (st : Fin 4) (v : Dev nD → FVec Ideal S1x128x128 .bf16) (c : Dev nD) (p : S128x128.Idx) :
    k0_pay3 (F := Ideal) (gather st v c) p = ∑ k : Fin 4, flat (v (peer st (-k) c)) p := by
  refine (pay3_sum _ p).trans (Finset.sum_congr rfl fun k _ => ?_)
  show v (peer st (-k) c) (inSlot (ix3 k (p 0) (p 1))) = v (peer st (-k) c) (ix3 0 (p 0) (p 1))
  refine congrArg _ ?_
  funext a; match a with | 0 => rfl | 1 => rfl | 2 => rfl

/-- Two exchanges, the second of the first one's sums: every device has the sum over all devices. -/
theorem two_exchanges (a b : Fin 4) (h : Across a b) (v u : Dev nD → FVec Ideal S1x128x128 .bf16)
    (hu : ∀ c, flat (u c) = k0_pay3 (F := Ideal) (gather a v c)) (c : Dev nD) (p : S128x128.Idx) :
    k0_pay3 (F := Ideal) (gather b u c) p = ∑ d : Dev nD, flat (v d) p := by
  rw [slots_sum, ← two_steps_sum a b h c fun d => flat (v d) p]
  refine Finset.sum_congr rfl fun j _ => ?_
  rw [hu, slots_sum]

section Whole

variable (m : (ℓ : Loc nD τ sig) → Buf (Elt Ideal) ℓ)
variable (x : Mat 128 128) (w0 w1 w2 : Mat 128 4096) (u0 u1 u2 : Mat 4096 128)

/-- Every device holds the whole of `x` and its blocks of the weights. -/
structure Holds : Prop where
  x : ∀ c, ain m c 0 = x
  w0 : ∀ c : Dev nD, ain m c 1 = cols c w0
  u0 : ∀ c : Dev nD, ain m c 2 = rows c u0
  w1 : ∀ c : Dev nD, ain m c 3 = cols c w1
  u1 : ∀ c : Dev nD, ain m c 4 = rows c u1
  w2 : ∀ c : Dev nD, ain m c 5 = cols c w2
  u2 : ∀ c : Dev nD, ain m c 6 = rows c u2

/-- The reference's three layers. -/
def three : Mat 128 128 := layer 4096 (layer 4096 (layer 4096 x w0 u0) w1 u1) w2 u2

variable {m x w0 w1 w2 u0 u1 u2} (H : Holds m x w0 w1 w2 u0 u1 u2)

include H

/-- After the first two exchanges every device has the first layer. -/
theorem first (c : Dev nD) : k0_pay3 (F := Ideal) (gather 1 (v1 m) c) = layer 4096 x w0 u0 := by
  funext p
  refine (two_exchanges 0 1 (.inl ⟨rfl, rfl⟩) (v0 m) (v1 m) (fun c => pay4_flat _) c p).trans ?_
  refine Eq.trans (Finset.sum_congr rfl fun d _ => ?_) (layer_cut x w0 u0 p)
  refine (congrFun (pay2_flat _ _ _) p).trans ?_
  rw [H.x, H.w0, H.u0]

/-- After the next two every device has the second layer. -/
theorem second (c : Dev nD) : k0_pay3 (F := Ideal) (gather 3 (v3 m) c) = layer 4096 (layer 4096 x w0 u0) w1 u1 := by
  funext p
  refine (two_exchanges 2 3 (.inr ⟨rfl, rfl⟩) (v2 m) (v3 m) (fun c => pay6_flat _) c p).trans ?_
  refine Eq.trans (Finset.sum_congr rfl fun d _ => ?_) (layer_cut (layer 4096 x w0 u0) w1 u1 p)
  refine (congrFun (pay5_flat _ _ _) p).trans ?_
  rw [first H, H.w1, H.u1]

/-- Each device's part of the last layer. -/
theorem prod_eq (d : Dev nD) :
    prod m d = layer 256 (layer 4096 (layer 4096 x w0 u0) w1 u1) (cols d w2) (rows d u2) := by
  refine (pay7_layer _ _ _).trans ?_
  rw [← second H d, H.w2, H.u2]
  rfl

/-- The kernel's result on device `c` is its eight rows of the three layers. -/
theorem outAt_eq (c : Dev nD) :
    outAt m c = Layout.block ⟨2, ![8, 128]⟩ ⟨2, ![128, 128]⟩ 0 16 c (three x w0 w1 w2 u0 u1 u2) := by
  funext p
  refine (pay1_sum _ p).trans ?_
  have hq : ∀ k : Fin 16, landed m c (ix3 k (p 0) (p 1))
      = prod m (rot (-k) c) (inRow c (ix3 0 (p 0) (p 1))) := fun k => congrArg (prod m (rot (-k) c)) (by
    funext a; match a with | 0 => rfl | 1 => rfl)
  rw [Finset.sum_congr rfl fun k _ => hq k]
  have hs := Equiv.sum_comp (Equiv.subLeft c) fun d : Dev nD => prod m d (inRow c (ix3 0 (p 0) (p 1)))
  refine Eq.trans (Finset.sum_congr rfl fun k _ => ?_) (hs.trans ?_)
  · exact congrArg (fun d => prod m d (inRow c (ix3 0 (p 0) (p 1)))) (sub_eq_add_neg c k).symm
  · refine Eq.trans (Finset.sum_congr rfl fun d _ => congrFun (prod_eq H d) _)
      ((layer_cut _ w2 u2 _).trans (congrArg (three x w0 w1 w2 u0 u1 u2) ?_))
    funext a; apply Fin.ext
    match a with
    | 0 => show 8 * c.val + (p 0).val = c.val * 8 + (p 0).val; omega
    | 1 => rfl

end Whole

end Cert.Talk

end
-- ==== Proof.Algebraic.lean ====
/-
# The value claim

The kernel over the extended reals, run on sixteen devices that hold the blocks of the reference's arrays, leaves on device
`c` block `c` of the reference's result.
-/
module

public import proofs.«01_k».proof.Defs
public import proofs.«01_k».proof.Proof.Run
public import proofs.«01_k».proof.Proof.Value
public import proofs.«01_k».proof.Proof.Gen.ReferenceIdeal.Run

@[expose] public section

set_option maxRecDepth 65536

noncomputable section

namespace Cert.Talk

open Cert.KernelIdeal Cert.KernelIdeal.Gen
open Idealize.ShloMosaic Idealize.ShloMosaic.TcCoe Idealize.SL.Sem

/-- The result array at the end of the run is what the last point left in its one block. -/
theorem final_array (m : (ℓ : Loc nD τ sig) → Buf (Elt Ideal) ℓ) (c : Dev nD) :
    (dats m 0 c).arrAt 0 cfg0.N = outAt m c := by
  have hz : (fun a => (win0_0.index (0 : Fin 1)) a * main_v1.ty.shape.size a) = fun _ => 0 :=
    funext fun a => by fin_cases a <;> decide
  exact (Memref.read_access_unit_zero (Elt Ideal) main_v1 hz (fun a => by fin_cases a <;> decide) _).symm.trans (final_out m c)

/-- An argument read through the kernel's view of it is the argument. -/
theorem ain_eq (m : (ℓ : Loc nD τ sig) → Buf (Elt Ideal) ℓ) (c : Dev nD) :
    ain m c 0 = m ((c : Thread nD τ).loc main_arg0) ∧ ain m c 1 = m ((c : Thread nD τ).loc main_arg1)
      ∧ ain m c 2 = m ((c : Thread nD τ).loc main_arg2) ∧ ain m c 3 = m ((c : Thread nD τ).loc main_arg3)
      ∧ ain m c 4 = m ((c : Thread nD τ).loc main_arg4) ∧ ain m c 5 = m ((c : Thread nD τ).loc main_arg5)
      ∧ ain m c 6 = m ((c : Thread nD τ).loc main_arg6) :=
  ⟨rfl, rfl, rfl, rfl, rfl, rfl, rfl⟩

/-- The kernel's sixteen results are the blocks of the reference's. -/
theorem algebraic : Cert.algebraic_KernelIdeal_ReferenceIdeal := by
  intro m g m' g' _ hagree
  refine ⟨three (m' ((0 : Dev Cert.ReferenceIdeal.nD).tc.loc Cert.ReferenceIdeal.main_arg0))
    (m' ((0 : Dev Cert.ReferenceIdeal.nD).tc.loc Cert.ReferenceIdeal.main_arg1))
    (m' ((0 : Dev Cert.ReferenceIdeal.nD).tc.loc Cert.ReferenceIdeal.main_arg3))
    (m' ((0 : Dev Cert.ReferenceIdeal.nD).tc.loc Cert.ReferenceIdeal.main_arg5))
    (m' ((0 : Dev Cert.ReferenceIdeal.nD).tc.loc Cert.ReferenceIdeal.main_arg2))
    (m' ((0 : Dev Cert.ReferenceIdeal.nD).tc.loc Cert.ReferenceIdeal.main_arg4))
    (m' ((0 : Dev Cert.ReferenceIdeal.nD).tc.loc Cert.ReferenceIdeal.main_arg6)), ?_, ?_⟩
  · refine (θ_run Cert.KernelIdeal.defs _ _).mono (fun _ h c => ⟨((h.1 c).1.trans (final_array m c)).trans (outAt_eq ?_ c),
      (h.1 c).2 0 (by decide), (h.1 c).2 1 (by decide), (h.1 c).2 2 (by decide), (h.1 c).2 3 (by decide),
      (h.1 c).2 4 (by decide), (h.1 c).2 5 (by decide), (h.1 c).2 6 (by decide)⟩) (run_main (F := Ideal) m g)
    exact
      { x := fun d => (ain_eq m d).1.trans (hagree d).1
        w0 := fun d => (ain_eq m d).2.1.trans (hagree d).2.1
        u0 := fun d => (ain_eq m d).2.2.1.trans (hagree d).2.2.1
        w1 := fun d => (ain_eq m d).2.2.2.1.trans (hagree d).2.2.2.1
        u1 := fun d => (ain_eq m d).2.2.2.2.1.trans (hagree d).2.2.2.2.1
        w2 := fun d => (ain_eq m d).2.2.2.2.2.1.trans (hagree d).2.2.2.2.2.1
        u2 := fun d => (ain_eq m d).2.2.2.2.2.2.trans (hagree d).2.2.2.2.2.2 }
  · refine (θ_run Cert.ReferenceIdeal.defs _ _).mono (fun _ h => ⟨(h 0).1.trans ?_, (h 0).2⟩)
      (Cert.ReferenceIdeal.Value.run (F := Ideal) m' g')
    rw [host_layer, host_layer, host_layer]
    rfl

end Cert.Talk

end
-- ==== Proof.lean ====
/-
# The claims, proved
-/
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- Every claim: the three frames; that the kernel over the extended reals is the printed one, with nothing to show as no
    operation is rewritten; and that its results are the reference's. -/
theorem claim : Cert.Claim := ⟨Cert.Kernel.Gen.facts, Cert.KernelIdeal.Gen.facts, Cert.ReferenceIdeal.Gen.facts,
  Cert.Talk.frame_kernel, Cert.Talk.frame_ideal, Cert.Talk.frame_reference, trivial,
  Cert.Talk.algebraic⟩

end Cert.Proof

end
